-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 8192]⟩ ⟨2, ![8192, 8192]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8192, 256]⟩ ⟨2, ![8192, 4096]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x8192 : Shape := ⟨2, ![512, 8192]⟩
abbrev S8192x4096 : Shape := ⟨2, ![8192, 4096]⟩
abbrev S8192x256 : Shape := ⟨2, ![8192, 256]⟩
abbrev S2x8192x256 : Shape := ⟨3, ![2, 8192, 256]⟩
abbrev S2x512x256 : Shape := ⟨3, ![2, 512, 256]⟩
abbrev S2 : Shape := ⟨1, ![2]⟩
abbrev S16 : Shape := ⟨1, ![16]⟩
abbrev S_ : Shape := ⟨0, ![]⟩
abbrev S1 : Shape := ⟨1, ![1]⟩
abbrev S1x8192x256 : Shape := ⟨3, ![1, 8192, 256]⟩
abbrev S512x256 : Shape := ⟨2, ![512, 256]⟩
abbrev S1x512x256 : Shape := ⟨3, ![1, 512, 256]⟩

abbrev nBuf : Space → Nat
  | .hbm => 3
  | .vmem => 4
  | .smem => 0
  | _ => 0

abbrev bufTy : (tb : Table) → Fin (tcTables nBuf tb) → BufTy
  | .hbm, ⟨0, _⟩ => ⟨S512x8192, .f32⟩
  | .hbm, ⟨1, _⟩ => ⟨S8192x4096, .f32⟩
  | .hbm, ⟨2, _⟩ => ⟨S8192x256, .f32⟩
  | .local _ .vmem, ⟨0, _⟩ => ⟨S512x8192, .f32⟩
  | .local _ .vmem, ⟨1, _⟩ => ⟨S8192x256, .f32⟩
  | .local _ .vmem, ⟨2, _⟩ => ⟨S2x8192x256, .f32⟩
  | .local _ .vmem, ⟨3, _⟩ => ⟨S2x512x256, .f32⟩
  | _, _ => ⟨S512x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) (c0_i32_136 : BitVec 32) : Fin 2 → Nat :=
  let c0_i32_147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v199 : BitVec 32 := Scalar.addi v2 c0_i32_136
  let c16_i32_137 : BitVec 32 := 16#32
  let c0_i32_138 : BitVec 32 := 0#32
  let v200 : BitVec 1 := Scalar.cmpi .eq c16_i32_137 c0_i32_138
  let c1_i32_139 : BitVec 32 := 1#32
  let v201 : BitVec 32 := Scalar.select v200 c1_i32_139 c16_i32_137
  let v202 : BitVec 32 := Scalar.remsi v199 v201
  let c0_i32_141 : BitVec 32 := 0#32
  let v204 : BitVec 1 := Scalar.cmpi .slt v202 c0_i32_141
  let c0_i32_142 : BitVec 32 := 0#32
  let v205 : BitVec 1 := Scalar.cmpi .slt v201 c0_i32_142
  let v206 : BitVec 1 := Scalar.xori v204 v205
  let c0_i32_140 : BitVec 32 := 0#32
  let v203 : BitVec 1 := Scalar.cmpi .ne v202 c0_i32_140
  let v207 : BitVec 1 := Scalar.andi v206 v203
  let v208 : BitVec 32 := Scalar.addi v202 v201
  let v209 : BitVec 32 := Scalar.select v207 v208 v202
  let c256_i32 : BitVec 32 := 256#32
  let v210 : BitVec 32 := Scalar.muli v209 c256_i32
  ![0, v210.toNat]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32 : BitVec 32 := 512#32
  let v256 : BitVec 32 := Scalar.muli v2 c512_i32
  let v257 : Index := Scalar.indexCast v256
  let c0_174 : Index := 0#32
  ![v257.toNat, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_210 : BitVec 32 := 512#32
  let v311 : BitVec 32 := Scalar.muli v2 c512_i32_210
  let c0_i32_216 : BitVec 32 := 0#32
  ![v311.toNat, 0]
def k0_dev16 (d0 : Dev nD) : Nat :=
  let c0_i32_215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_193 : BitVec 32 := 1#32
  let v281 : BitVec 32 := Scalar.addi v2 c1_i32_193
  let c16_i32_194 : BitVec 32 := 16#32
  let c0_i32_195 : BitVec 32 := 0#32
  let v282 : BitVec 1 := Scalar.cmpi .eq c16_i32_194 c0_i32_195
  let c1_i32_196 : BitVec 32 := 1#32
  let v283 : BitVec 32 := Scalar.select v282 c1_i32_196 c16_i32_194
  let v284 : BitVec 32 := Scalar.remsi v281 v283
  let c0_i32_198 : BitVec 32 := 0#32
  let v286 : BitVec 1 := Scalar.cmpi .slt v284 c0_i32_198
  let c0_i32_199 : BitVec 32 := 0#32
  let v287 : BitVec 1 := Scalar.cmpi .slt v283 c0_i32_199
  let v288 : BitVec 1 := Scalar.xori v286 v287
  let c0_i32_197 : BitVec 32 := 0#32
  let v285 : BitVec 1 := Scalar.cmpi .ne v284 c0_i32_197
  let v289 : BitVec 1 := Scalar.andi v288 v285
  let v290 : BitVec 32 := Scalar.addi v284 v283
  let v291 : BitVec 32 := Scalar.select v289 v290 v284
  let c1_i32_214 : BitVec 32 := 1#32
  let v312 : BitVec 32 := Scalar.muli v291 c1_i32_214
  let v313 : BitVec 32 := Scalar.addi c0_i32_215 v312
  v313.toNat
def k0_dev17 (d0 : Dev nD) : Nat :=
  let c0_i32_260 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_237 : BitVec 32 := 2#32
  let v343 : BitVec 32 := Scalar.addi v2 c2_i32_237
  let c16_i32_238 : BitVec 32 := 16#32
  let c0_i32_239 : BitVec 32 := 0#32
  let v344 : BitVec 1 := Scalar.cmpi .eq c16_i32_238 c0_i32_239
  let c1_i32_240 : BitVec 32 := 1#32
  let v345 : BitVec 32 := Scalar.select v344 c1_i32_240 c16_i32_238
  let v346 : BitVec 32 := Scalar.remsi v343 v345
  let c0_i32_242 : BitVec 32 := 0#32
  let v348 : BitVec 1 := Scalar.cmpi .slt v346 c0_i32_242
  let c0_i32_243 : BitVec 32 := 0#32
  let v349 : BitVec 1 := Scalar.cmpi .slt v345 c0_i32_243
  let v350 : BitVec 1 := Scalar.xori v348 v349
  let c0_i32_241 : BitVec 32 := 0#32
  let v347 : BitVec 1 := Scalar.cmpi .ne v346 c0_i32_241
  let v351 : BitVec 1 := Scalar.andi v350 v347
  let v352 : BitVec 32 := Scalar.addi v346 v345
  let v353 : BitVec 32 := Scalar.select v351 v352 v346
  let c1_i32_259 : BitVec 32 := 1#32
  let v374 : BitVec 32 := Scalar.muli v353 c1_i32_259
  let v375 : BitVec 32 := Scalar.addi c0_i32_260 v374
  v375.toNat
def k0_dev18 (d0 : Dev nD) : Nat :=
  let c0_i32_312 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_282 : BitVec 32 := 3#32
  let v405 : BitVec 32 := Scalar.addi v2 c3_i32_282
  let c16_i32_283 : BitVec 32 := 16#32
  let c0_i32_284 : BitVec 32 := 0#32
  let v406 : BitVec 1 := Scalar.cmpi .eq c16_i32_283 c0_i32_284
  let c1_i32_285 : BitVec 32 := 1#32
  let v407 : BitVec 32 := Scalar.select v406 c1_i32_285 c16_i32_283
  let v408 : BitVec 32 := Scalar.remsi v405 v407
  let c0_i32_287 : BitVec 32 := 0#32
  let v410 : BitVec 1 := Scalar.cmpi .slt v408 c0_i32_287
  let c0_i32_288 : BitVec 32 := 0#32
  let v411 : BitVec 1 := Scalar.cmpi .slt v407 c0_i32_288
  let v412 : BitVec 1 := Scalar.xori v410 v411
  let c0_i32_286 : BitVec 32 := 0#32
  let v409 : BitVec 1 := Scalar.cmpi .ne v408 c0_i32_286
  let v413 : BitVec 1 := Scalar.andi v412 v409
  let v414 : BitVec 32 := Scalar.addi v408 v407
  let v415 : BitVec 32 := Scalar.select v413 v414 v408
  let c1_i32_311 : BitVec 32 := 1#32
  let v441 : BitVec 32 := Scalar.muli v415 c1_i32_311
  let v442 : BitVec 32 := Scalar.addi c0_i32_312 v441
  v442.toNat
def k0_dev19 (d0 : Dev nD) : Nat :=
  let c0_i32_364 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_334 : BitVec 32 := 4#32
  let v472 : BitVec 32 := Scalar.addi v2 c4_i32_334
  let c16_i32_335 : BitVec 32 := 16#32
  let c0_i32_336 : BitVec 32 := 0#32
  let v473 : BitVec 1 := Scalar.cmpi .eq c16_i32_335 c0_i32_336
  let c1_i32_337 : BitVec 32 := 1#32
  let v474 : BitVec 32 := Scalar.select v473 c1_i32_337 c16_i32_335
  let v475 : BitVec 32 := Scalar.remsi v472 v474
  let c0_i32_339 : BitVec 32 := 0#32
  let v477 : BitVec 1 := Scalar.cmpi .slt v475 c0_i32_339
  let c0_i32_340 : BitVec 32 := 0#32
  let v478 : BitVec 1 := Scalar.cmpi .slt v474 c0_i32_340
  let v479 : BitVec 1 := Scalar.xori v477 v478
  let c0_i32_338 : BitVec 32 := 0#32
  let v476 : BitVec 1 := Scalar.cmpi .ne v475 c0_i32_338
  let v480 : BitVec 1 := Scalar.andi v479 v476
  let v481 : BitVec 32 := Scalar.addi v475 v474
  let v482 : BitVec 32 := Scalar.select v480 v481 v475
  let c1_i32_363 : BitVec 32 := 1#32
  let v508 : BitVec 32 := Scalar.muli v482 c1_i32_363
  let v509 : BitVec 32 := Scalar.addi c0_i32_364 v508
  v509.toNat
def k0_dev20 (d0 : Dev nD) : Nat :=
  let c0_i32_416 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_386 : BitVec 32 := 5#32
  let v539 : BitVec 32 := Scalar.addi v2 c5_i32_386
  let c16_i32_387 : BitVec 32 := 16#32
  let c0_i32_388 : BitVec 32 := 0#32
  let v540 : BitVec 1 := Scalar.cmpi .eq c16_i32_387 c0_i32_388
  let c1_i32_389 : BitVec 32 := 1#32
  let v541 : BitVec 32 := Scalar.select v540 c1_i32_389 c16_i32_387
  let v542 : BitVec 32 := Scalar.remsi v539 v541
  let c0_i32_391 : BitVec 32 := 0#32
  let v544 : BitVec 1 := Scalar.cmpi .slt v542 c0_i32_391
  let c0_i32_392 : BitVec 32 := 0#32
  let v545 : BitVec 1 := Scalar.cmpi .slt v541 c0_i32_392
  let v546 : BitVec 1 := Scalar.xori v544 v545
  let c0_i32_390 : BitVec 32 := 0#32
  let v543 : BitVec 1 := Scalar.cmpi .ne v542 c0_i32_390
  let v547 : BitVec 1 := Scalar.andi v546 v543
  let v548 : BitVec 32 := Scalar.addi v542 v541
  let v549 : BitVec 32 := Scalar.select v547 v548 v542
  let c1_i32_415 : BitVec 32 := 1#32
  let v575 : BitVec 32 := Scalar.muli v549 c1_i32_415
  let v576 : BitVec 32 := Scalar.addi c0_i32_416 v575
  v576.toNat
def k0_dev21 (d0 : Dev nD) : Nat :=
  let c0_i32_468 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_438 : BitVec 32 := 6#32
  let v606 : BitVec 32 := Scalar.addi v2 c6_i32_438
  let c16_i32_439 : BitVec 32 := 16#32
  let c0_i32_440 : BitVec 32 := 0#32
  let v607 : BitVec 1 := Scalar.cmpi .eq c16_i32_439 c0_i32_440
  let c1_i32_441 : BitVec 32 := 1#32
  let v608 : BitVec 32 := Scalar.select v607 c1_i32_441 c16_i32_439
  let v609 : BitVec 32 := Scalar.remsi v606 v608
  let c0_i32_443 : BitVec 32 := 0#32
  let v611 : BitVec 1 := Scalar.cmpi .slt v609 c0_i32_443
  let c0_i32_444 : BitVec 32 := 0#32
  let v612 : BitVec 1 := Scalar.cmpi .slt v608 c0_i32_444
  let v613 : BitVec 1 := Scalar.xori v611 v612
  let c0_i32_442 : BitVec 32 := 0#32
  let v610 : BitVec 1 := Scalar.cmpi .ne v609 c0_i32_442
  let v614 : BitVec 1 := Scalar.andi v613 v610
  let v615 : BitVec 32 := Scalar.addi v609 v608
  let v616 : BitVec 32 := Scalar.select v614 v615 v609
  let c1_i32_467 : BitVec 32 := 1#32
  let v642 : BitVec 32 := Scalar.muli v616 c1_i32_467
  let v643 : BitVec 32 := Scalar.addi c0_i32_468 v642
  v643.toNat
def k0_dev22 (d0 : Dev nD) : Nat :=
  let c0_i32_520 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_490 : BitVec 32 := 7#32
  let v673 : BitVec 32 := Scalar.addi v2 c7_i32_490
  let c16_i32_491 : BitVec 32 := 16#32
  let c0_i32_492 : BitVec 32 := 0#32
  let v674 : BitVec 1 := Scalar.cmpi .eq c16_i32_491 c0_i32_492
  let c1_i32_493 : BitVec 32 := 1#32
  let v675 : BitVec 32 := Scalar.select v674 c1_i32_493 c16_i32_491
  let v676 : BitVec 32 := Scalar.remsi v673 v675
  let c0_i32_495 : BitVec 32 := 0#32
  let v678 : BitVec 1 := Scalar.cmpi .slt v676 c0_i32_495
  let c0_i32_496 : BitVec 32 := 0#32
  let v679 : BitVec 1 := Scalar.cmpi .slt v675 c0_i32_496
  let v680 : BitVec 1 := Scalar.xori v678 v679
  let c0_i32_494 : BitVec 32 := 0#32
  let v677 : BitVec 1 := Scalar.cmpi .ne v676 c0_i32_494
  let v681 : BitVec 1 := Scalar.andi v680 v677
  let v682 : BitVec 32 := Scalar.addi v676 v675
  let v683 : BitVec 32 := Scalar.select v681 v682 v676
  let c1_i32_519 : BitVec 32 := 1#32
  let v709 : BitVec 32 := Scalar.muli v683 c1_i32_519
  let v710 : BitVec 32 := Scalar.addi c0_i32_520 v709
  v710.toNat
def k0_dev23 (d0 : Dev nD) : Nat :=
  let c0_i32_572 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_542 : BitVec 32 := 8#32
  let v740 : BitVec 32 := Scalar.addi v2 c8_i32_542
  let c16_i32_543 : BitVec 32 := 16#32
  let c0_i32_544 : BitVec 32 := 0#32
  let v741 : BitVec 1 := Scalar.cmpi .eq c16_i32_543 c0_i32_544
  let c1_i32_545 : BitVec 32 := 1#32
  let v742 : BitVec 32 := Scalar.select v741 c1_i32_545 c16_i32_543
  let v743 : BitVec 32 := Scalar.remsi v740 v742
  let c0_i32_547 : BitVec 32 := 0#32
  let v745 : BitVec 1 := Scalar.cmpi .slt v743 c0_i32_547
  let c0_i32_548 : BitVec 32 := 0#32
  let v746 : BitVec 1 := Scalar.cmpi .slt v742 c0_i32_548
  let v747 : BitVec 1 := Scalar.xori v745 v746
  let c0_i32_546 : BitVec 32 := 0#32
  let v744 : BitVec 1 := Scalar.cmpi .ne v743 c0_i32_546
  let v748 : BitVec 1 := Scalar.andi v747 v744
  let v749 : BitVec 32 := Scalar.addi v743 v742
  let v750 : BitVec 32 := Scalar.select v748 v749 v743
  let c1_i32_571 : BitVec 32 := 1#32
  let v776 : BitVec 32 := Scalar.muli v750 c1_i32_571
  let v777 : BitVec 32 := Scalar.addi c0_i32_572 v776
  v777.toNat
def k0_dev24 (d0 : Dev nD) : Nat :=
  let c0_i32_624 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_594 : BitVec 32 := 9#32
  let v807 : BitVec 32 := Scalar.addi v2 c9_i32_594
  let c16_i32_595 : BitVec 32 := 16#32
  let c0_i32_596 : BitVec 32 := 0#32
  let v808 : BitVec 1 := Scalar.cmpi .eq c16_i32_595 c0_i32_596
  let c1_i32_597 : BitVec 32 := 1#32
  let v809 : BitVec 32 := Scalar.select v808 c1_i32_597 c16_i32_595
  let v810 : BitVec 32 := Scalar.remsi v807 v809
  let c0_i32_599 : BitVec 32 := 0#32
  let v812 : BitVec 1 := Scalar.cmpi .slt v810 c0_i32_599
  let c0_i32_600 : BitVec 32 := 0#32
  let v813 : BitVec 1 := Scalar.cmpi .slt v809 c0_i32_600
  let v814 : BitVec 1 := Scalar.xori v812 v813
  let c0_i32_598 : BitVec 32 := 0#32
  let v811 : BitVec 1 := Scalar.cmpi .ne v810 c0_i32_598
  let v815 : BitVec 1 := Scalar.andi v814 v811
  let v816 : BitVec 32 := Scalar.addi v810 v809
  let v817 : BitVec 32 := Scalar.select v815 v816 v810
  let c1_i32_623 : BitVec 32 := 1#32
  let v843 : BitVec 32 := Scalar.muli v817 c1_i32_623
  let v844 : BitVec 32 := Scalar.addi c0_i32_624 v843
  v844.toNat
def k0_dev25 (d0 : Dev nD) : Nat :=
  let c0_i32_676 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_646 : BitVec 32 := 10#32
  let v874 : BitVec 32 := Scalar.addi v2 c10_i32_646
  let c16_i32_647 : BitVec 32 := 16#32
  let c0_i32_648 : BitVec 32 := 0#32
  let v875 : BitVec 1 := Scalar.cmpi .eq c16_i32_647 c0_i32_648
  let c1_i32_649 : BitVec 32 := 1#32
  let v876 : BitVec 32 := Scalar.select v875 c1_i32_649 c16_i32_647
  let v877 : BitVec 32 := Scalar.remsi v874 v876
  let c0_i32_651 : BitVec 32 := 0#32
  let v879 : BitVec 1 := Scalar.cmpi .slt v877 c0_i32_651
  let c0_i32_652 : BitVec 32 := 0#32
  let v880 : BitVec 1 := Scalar.cmpi .slt v876 c0_i32_652
  let v881 : BitVec 1 := Scalar.xori v879 v880
  let c0_i32_650 : BitVec 32 := 0#32
  let v878 : BitVec 1 := Scalar.cmpi .ne v877 c0_i32_650
  let v882 : BitVec 1 := Scalar.andi v881 v878
  let v883 : BitVec 32 := Scalar.addi v877 v876
  let v884 : BitVec 32 := Scalar.select v882 v883 v877
  let c1_i32_675 : BitVec 32 := 1#32
  let v910 : BitVec 32 := Scalar.muli v884 c1_i32_675
  let v911 : BitVec 32 := Scalar.addi c0_i32_676 v910
  v911.toNat
def k0_dev26 (d0 : Dev nD) : Nat :=
  let c0_i32_728 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_698 : BitVec 32 := 11#32
  let v941 : BitVec 32 := Scalar.addi v2 c11_i32_698
  let c16_i32_699 : BitVec 32 := 16#32
  let c0_i32_700 : BitVec 32 := 0#32
  let v942 : BitVec 1 := Scalar.cmpi .eq c16_i32_699 c0_i32_700
  let c1_i32_701 : BitVec 32 := 1#32
  let v943 : BitVec 32 := Scalar.select v942 c1_i32_701 c16_i32_699
  let v944 : BitVec 32 := Scalar.remsi v941 v943
  let c0_i32_703 : BitVec 32 := 0#32
  let v946 : BitVec 1 := Scalar.cmpi .slt v944 c0_i32_703
  let c0_i32_704 : BitVec 32 := 0#32
  let v947 : BitVec 1 := Scalar.cmpi .slt v943 c0_i32_704
  let v948 : BitVec 1 := Scalar.xori v946 v947
  let c0_i32_702 : BitVec 32 := 0#32
  let v945 : BitVec 1 := Scalar.cmpi .ne v944 c0_i32_702
  let v949 : BitVec 1 := Scalar.andi v948 v945
  let v950 : BitVec 32 := Scalar.addi v944 v943
  let v951 : BitVec 32 := Scalar.select v949 v950 v944
  let c1_i32_727 : BitVec 32 := 1#32
  let v977 : BitVec 32 := Scalar.muli v951 c1_i32_727
  let v978 : BitVec 32 := Scalar.addi c0_i32_728 v977
  v978.toNat
def k0_dev27 (d0 : Dev nD) : Nat :=
  let c0_i32_780 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_750 : BitVec 32 := 12#32
  let v1008 : BitVec 32 := Scalar.addi v2 c12_i32_750
  let c16_i32_751 : BitVec 32 := 16#32
  let c0_i32_752 : BitVec 32 := 0#32
  let v1009 : BitVec 1 := Scalar.cmpi .eq c16_i32_751 c0_i32_752
  let c1_i32_753 : BitVec 32 := 1#32
  let v1010 : BitVec 32 := Scalar.select v1009 c1_i32_753 c16_i32_751
  let v1011 : BitVec 32 := Scalar.remsi v1008 v1010
  let c0_i32_755 : BitVec 32 := 0#32
  let v1013 : BitVec 1 := Scalar.cmpi .slt v1011 c0_i32_755
  let c0_i32_756 : BitVec 32 := 0#32
  let v1014 : BitVec 1 := Scalar.cmpi .slt v1010 c0_i32_756
  let v1015 : BitVec 1 := Scalar.xori v1013 v1014
  let c0_i32_754 : BitVec 32 := 0#32
  let v1012 : BitVec 1 := Scalar.cmpi .ne v1011 c0_i32_754
  let v1016 : BitVec 1 := Scalar.andi v1015 v1012
  let v1017 : BitVec 32 := Scalar.addi v1011 v1010
  let v1018 : BitVec 32 := Scalar.select v1016 v1017 v1011
  let c1_i32_779 : BitVec 32 := 1#32
  let v1044 : BitVec 32 := Scalar.muli v1018 c1_i32_779
  let v1045 : BitVec 32 := Scalar.addi c0_i32_780 v1044
  v1045.toNat
def k0_dev28 (d0 : Dev nD) : Nat :=
  let c0_i32_832 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_802 : BitVec 32 := 13#32
  let v1075 : BitVec 32 := Scalar.addi v2 c13_i32_802
  let c16_i32_803 : BitVec 32 := 16#32
  let c0_i32_804 : BitVec 32 := 0#32
  let v1076 : BitVec 1 := Scalar.cmpi .eq c16_i32_803 c0_i32_804
  let c1_i32_805 : BitVec 32 := 1#32
  let v1077 : BitVec 32 := Scalar.select v1076 c1_i32_805 c16_i32_803
  let v1078 : BitVec 32 := Scalar.remsi v1075 v1077
  let c0_i32_807 : BitVec 32 := 0#32
  let v1080 : BitVec 1 := Scalar.cmpi .slt v1078 c0_i32_807
  let c0_i32_808 : BitVec 32 := 0#32
  let v1081 : BitVec 1 := Scalar.cmpi .slt v1077 c0_i32_808
  let v1082 : BitVec 1 := Scalar.xori v1080 v1081
  let c0_i32_806 : BitVec 32 := 0#32
  let v1079 : BitVec 1 := Scalar.cmpi .ne v1078 c0_i32_806
  let v1083 : BitVec 1 := Scalar.andi v1082 v1079
  let v1084 : BitVec 32 := Scalar.addi v1078 v1077
  let v1085 : BitVec 32 := Scalar.select v1083 v1084 v1078
  let c1_i32_831 : BitVec 32 := 1#32
  let v1111 : BitVec 32 := Scalar.muli v1085 c1_i32_831
  let v1112 : BitVec 32 := Scalar.addi c0_i32_832 v1111
  v1112.toNat
def k0_dev29 (d0 : Dev nD) : Nat :=
  let c0_i32_884 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_854 : BitVec 32 := 14#32
  let v1142 : BitVec 32 := Scalar.addi v2 c14_i32_854
  let c16_i32_855 : BitVec 32 := 16#32
  let c0_i32_856 : BitVec 32 := 0#32
  let v1143 : BitVec 1 := Scalar.cmpi .eq c16_i32_855 c0_i32_856
  let c1_i32_857 : BitVec 32 := 1#32
  let v1144 : BitVec 32 := Scalar.select v1143 c1_i32_857 c16_i32_855
  let v1145 : BitVec 32 := Scalar.remsi v1142 v1144
  let c0_i32_859 : BitVec 32 := 0#32
  let v1147 : BitVec 1 := Scalar.cmpi .slt v1145 c0_i32_859
  let c0_i32_860 : BitVec 32 := 0#32
  let v1148 : BitVec 1 := Scalar.cmpi .slt v1144 c0_i32_860
  let v1149 : BitVec 1 := Scalar.xori v1147 v1148
  let c0_i32_858 : BitVec 32 := 0#32
  let v1146 : BitVec 1 := Scalar.cmpi .ne v1145 c0_i32_858
  let v1150 : BitVec 1 := Scalar.andi v1149 v1146
  let v1151 : BitVec 32 := Scalar.addi v1145 v1144
  let v1152 : BitVec 32 := Scalar.select v1150 v1151 v1145
  let c1_i32_883 : BitVec 32 := 1#32
  let v1178 : BitVec 32 := Scalar.muli v1152 c1_i32_883
  let v1179 : BitVec 32 := Scalar.addi c0_i32_884 v1178
  v1179.toNat
def k0_dev30 (d0 : Dev nD) : Nat :=
  let c0_i32_923 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_893 : BitVec 32 := 15#32
  let v1192 : BitVec 32 := Scalar.addi v2 c15_i32_893
  let c16_i32_894 : BitVec 32 := 16#32
  let c0_i32_895 : BitVec 32 := 0#32
  let v1193 : BitVec 1 := Scalar.cmpi .eq c16_i32_894 c0_i32_895
  let c1_i32_896 : BitVec 32 := 1#32
  let v1194 : BitVec 32 := Scalar.select v1193 c1_i32_896 c16_i32_894
  let v1195 : BitVec 32 := Scalar.remsi v1192 v1194
  let c0_i32_898 : BitVec 32 := 0#32
  let v1197 : BitVec 1 := Scalar.cmpi .slt v1195 c0_i32_898
  let c0_i32_899 : BitVec 32 := 0#32
  let v1198 : BitVec 1 := Scalar.cmpi .slt v1194 c0_i32_899
  let v1199 : BitVec 1 := Scalar.xori v1197 v1198
  let c0_i32_897 : BitVec 32 := 0#32
  let v1196 : BitVec 1 := Scalar.cmpi .ne v1195 c0_i32_897
  let v1200 : BitVec 1 := Scalar.andi v1199 v1196
  let v1201 : BitVec 32 := Scalar.addi v1195 v1194
  let v1202 : BitVec 32 := Scalar.select v1200 v1201 v1195
  let c1_i32_922 : BitVec 32 := 1#32
  let v1228 : BitVec 32 := Scalar.muli v1202 c1_i32_922
  let v1229 : BitVec 32 := Scalar.addi c0_i32_923 v1228
  v1229.toNat
def k0_off4 (d0 : Dev nD) (c1_i32_941 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1247 : BitVec 32 := Scalar.subi v2 c1_i32_941
  let c16_i32_942 : BitVec 32 := 16#32
  let v1248 : BitVec 32 := Scalar.addi v1247 c16_i32_942
  let c16_i32_943 : BitVec 32 := 16#32
  let c0_i32_944 : BitVec 32 := 0#32
  let v1249 : BitVec 1 := Scalar.cmpi .eq c16_i32_943 c0_i32_944
  let c1_i32_945 : BitVec 32 := 1#32
  let v1250 : BitVec 32 := Scalar.select v1249 c1_i32_945 c16_i32_943
  let v1251 : BitVec 32 := Scalar.remsi v1248 v1250
  let c0_i32_947 : BitVec 32 := 0#32
  let v1253 : BitVec 1 := Scalar.cmpi .slt v1251 c0_i32_947
  let c0_i32_948 : BitVec 32 := 0#32
  let v1254 : BitVec 1 := Scalar.cmpi .slt v1250 c0_i32_948
  let v1255 : BitVec 1 := Scalar.xori v1253 v1254
  let c0_i32_946 : BitVec 32 := 0#32
  let v1252 : BitVec 1 := Scalar.cmpi .ne v1251 c0_i32_946
  let v1256 : BitVec 1 := Scalar.andi v1255 v1252
  let v1257 : BitVec 32 := Scalar.addi v1251 v1250
  let v1258 : BitVec 32 := Scalar.select v1256 v1257 v1251
  let c512_i32_949 : BitVec 32 := 512#32
  let v1259 : BitVec 32 := Scalar.muli v1258 c512_i32_949
  let c0_i32_955 : BitVec 32 := 0#32
  ![v1259.toNat, 0]
abbrev stage0_0 : Fin 1 → Memref sig .tc .vmem S512x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Kernel.Frame.lean ====
/-
The frame: the kernel leaves both arguments as they were and every semaphore counter at zero.
-/
module

public import proofs.«01_k».proof.Proof.Kernel.Run

@[expose] public section

noncomputable section

namespace Cert.Kernel.A2A

open Cert.Kernel Cert.Kernel.Gen
open Idealize.ShloMosaic Idealize.ShloMosaic.TcCoe Idealize.SL.Sem

variable {F : FTy → Type} [FloatOps F]

variable (m : (ℓ : Loc nD τ sig) → Buf (Elt F) ℓ)

/-- Every run from zeroed counters ends with the arguments unchanged on every device and every counter at zero. -/
theorem frame (ρ : Dev nD → PrngReg) : θ_run defs (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨((h.1 c).1 (0 : Fin 2)).trans (finalA_x m c), (h.1 c).2⟩, h.2⟩) (run_main m ρ)

end Cert.Kernel.A2A

end
-- ==== Proof.KernelIdeal.Prog.lean ====
/-
The kernel's body written over its memory operations: the fifteen entry signals and their wait, the double-buffered
column loop, the drain of the last two sends and the fifteen receive waits, each spelled once at a symbolic step.
`body_eq` states that the printed body is this text.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.A2A

open Cert.KernelIdeal Cert.KernelIdeal.Gen
open Idealize.ShloMosaic Idealize.ShloMosaic.TcCoe
open Idealize.SL Idealize.SL.Sem

variable {F : FTy → Type} [FloatOps F]

/-- A program of the kernel's, returning nothing. -/
abbrev PP (F : FTy → Type) [FloatOps F] : Type 1 := Prog (TpuEff nD τ sig (Elt F) Λ₀ .tc) PUnit

/-! ## The buffers and their windows -/

abbrev xM : Memref sig .tc .vmem S512x8192 .f32 := Memref.whole cc0_stg0_0
abbrev wM : Memref sig .tc .hbm S8192x4096 .f32 := Memref.whole main_arg1
abbrev oM : Memref sig .tc .vmem S8192x256 .f32 := Memref.whole cc0_stg1_0
abbrev bM : Memref sig .tc .vmem S2x8192x256 .f32 := Memref.whole cc0_scratch0
abbrev yM : Memref sig .tc .vmem S2x512x256 .f32 := Memref.whole cc0_scratch1

theorem inb_b (s : Fin 2) : ∀ a, (![s.val, 0, 0] : Fin 3 → Nat) a + S1x8192x256.size a ≤ S2x8192x256.size a := by revert s; decide
theorem inb_y (s : Fin 2) : ∀ a, (![s.val, 0, 0] : Fin 3 → Nat) a + S1x512x256.size a ≤ S2x512x256.size a := by revert s; decide
theorem inb_ld (s : Fin 2) : ∀ a, (![s.val] : Fin 1 → Nat) a + S1.size a ≤ S2.size a := by revert s; decide
theorem inb_sr (r : Fin 16) : ∀ a, (![r.val] : Fin 1 → Nat) a + S1.size a ≤ S16.size a := by revert r; decide

/-- The rectangle of slot `s` of the column double buffer, of slot `s` of the result double buffer, the whole of the
    staged block of `x`, and the rows a device keeps of its result. -/
abbrev bR (s : Fin 2) : Rect S2x8192x256 := Rect.unit (s := S2x8192x256) ![s.val, 0, 0] S1x8192x256.size (inb_b s)
abbrev yR (s : Fin 2) : Rect S2x512x256 := Rect.unit (s := S2x512x256) ![s.val, 0, 0] S1x512x256.size (inb_y s)
abbrev xR : Rect S512x8192 := Rect.unit (s := S512x8192) ![0, 0] S512x8192.size inb_S512x8192_S512x8192_0_0
abbrev oR (c : Dev nD) : Rect S8192x256 := Rect.unit (s := S8192x256) (k0_off2 c) S512x256.size (k0_off2_inb c)

/-- The two double buffers' slots, the 256 columns of `w` of step `r`, the rows of a result device `c` writes, and the
    rows of its own result the sender of step `r` writes. -/
abbrev bSlot (s : Fin 2) : Memref sig .tc .vmem S8192x256 .f32 := (bM.slice (bR s) (fun _ => rfl)).squeeze S8192x256 squeezes_S1x8192x256_S8192x256
abbrev ySlot (s : Fin 2) : Memref sig .tc .vmem S512x256 .f32 := (yM.slice (yR s) (fun _ => rfl)).squeeze S512x256 squeezes_S1x512x256_S512x256
abbrev wCol (c : Dev nD) (r : Fin 16) : Memref sig .tc .hbm S8192x256 .f32 :=
  wM.slice (Rect.unit (s := S8192x4096) (k0_off1 c (BitVec.ofNat 32 r.val)) S8192x256.size (k0_off1_inb c r)) (fun _ => rfl)
abbrev oRow (c : Dev nD) : Memref sig .tc .vmem S512x256 .f32 :=
  oM.slice (Rect.unit (s := S8192x256) (k0_off3 c) S512x256.size (k0_off3_inb c)) (fun _ => rfl)
abbrev oFrom (c : Dev nD) (r : Fin 15) : Memref sig .tc .vmem S512x256 .f32 :=
  oM.slice (Rect.unit (s := S8192x256) (k0_off4 c (BitVec.ofNat 32 (1 + r.val))) S512x256.size (k0_off4_inb c r)) (fun _ => rfl)

/-! ## The semaphores -/

abbrev barS : Sem sig := (SemArray.scalar (sig.barrier 0 rfl) : Sems sig S_).sem
abbrev ldSem (s : Fin 2) : DmaSem sig := ((cc0_scratch2.slice (Rect.unit (s := S2) ![s.val] S1.size (inb_ld s))).squeeze S_ squeezes_S1_S_).sem
abbrev sdSem (r : Fin 16) : DmaSem sig := ((cc0_scratch3.slice (Rect.unit (s := S16) ![r.val] S1.size (inb_sr r))).squeeze S_ squeezes_S1_S_).sem
abbrev rvSem (r : Fin 16) : DmaSem sig := ((cc0_scratch4.slice (Rect.unit (s := S16) ![r.val] S1.size (inb_sr r))).squeeze S_ squeezes_S1_S_).sem

/-! ## The devices named -/

/-- The device the entry signal of step `r + 1` names, and the one the transfer of step `r + 1` names. -/
def sigDev (c : Dev nD) : Fin 15 → Dev nD := ![⟨k0_dev1 c, k0_dev1_lt c⟩, ⟨k0_dev2 c, k0_dev2_lt c⟩, ⟨k0_dev3 c, k0_dev3_lt c⟩, ⟨k0_dev4 c, k0_dev4_lt c⟩, ⟨k0_dev5 c, k0_dev5_lt c⟩, ⟨k0_dev6 c, k0_dev6_lt c⟩, ⟨k0_dev7 c, k0_dev7_lt c⟩, ⟨k0_dev8 c, k0_dev8_lt c⟩, ⟨k0_dev9 c, k0_dev9_lt c⟩, ⟨k0_dev10 c, k0_dev10_lt c⟩, ⟨k0_dev11 c, k0_dev11_lt c⟩, ⟨k0_dev12 c, k0_dev12_lt c⟩, ⟨k0_dev13 c, k0_dev13_lt c⟩, ⟨k0_dev14 c, k0_dev14_lt c⟩, ⟨k0_dev15 c, k0_dev15_lt c⟩]
def sndDev (c : Dev nD) : Fin 15 → Dev nD := ![⟨k0_dev16 c, k0_dev16_lt c⟩, ⟨k0_dev17 c, k0_dev17_lt c⟩, ⟨k0_dev18 c, k0_dev18_lt c⟩, ⟨k0_dev19 c, k0_dev19_lt c⟩, ⟨k0_dev20 c, k0_dev20_lt c⟩, ⟨k0_dev21 c, k0_dev21_lt c⟩, ⟨k0_dev22 c, k0_dev22_lt c⟩, ⟨k0_dev23 c, k0_dev23_lt c⟩, ⟨k0_dev24 c, k0_dev24_lt c⟩, ⟨k0_dev25 c, k0_dev25_lt c⟩, ⟨k0_dev26 c, k0_dev26_lt c⟩, ⟨k0_dev27 c, k0_dev27_lt c⟩, ⟨k0_dev28 c, k0_dev28_lt c⟩, ⟨k0_dev29 c, k0_dev29_lt c⟩, ⟨k0_dev30 c, k0_dev30_lt c⟩]

/-! ## The values computed -/

/-- The block a device computes for the peer of one step: gelu of the product of its block of `x` with 256 columns of
    `w`; as it is stored in the result's rows, and as it is stored in a slot of the result double buffer. -/
abbrev blkO (x : Vec F S512x8192 .f32) (w : Vec F S1x8192x256 .f32) : FVec F S512x256 .f32 := k0_pay2 (k0_pay1 x) w
abbrev blkY (x : Vec F S512x8192 .f32) (w : Vec F S1x8192x256 .f32) : FVec F S1x512x256 .f32 := k0_pay3 (k0_pay1 x) w

/-! ## The operations -/

section Ops
variable (c : Dev nD)

def signals : List (Fin 15) → PP F → PP F
  | [], k => k
  | r :: l, k => .op (.semSignal (sigDev c r, .tc) barS (1#32).toInt) fun _ => signals l k

def startLd (r : Fin 16) (s : Fin 2) (k : PP F) : PP F :=
  .op (.enqueueDma (wCol c r) (.here (bSlot s)) (.dma (ldSem s)) (View.wordExact_bits rfl) ((View.wordExact_bits rfl).reshape _ _) ⟨Or.inl rfl, trivial⟩) fun _ => k
def waitLd (r : Fin 16) (s : Fin 2) (k : PP F) : PP F :=
  .op (.waitDma2 (ldSem s) (wCol c r) (bSlot s) (View.wordExact_bits rfl) ((View.wordExact_bits rfl).reshape _ _)) fun _ => k
def loadB (s : Fin 2) (k : Vec F S1x8192x256 .f32 → PP F) : PP F :=
  .op (.load bM (bR s).toLoadRect (View.loadsAt_vmem h_S1x8192x256)) k
def storeY (s : Fin 2) (v : FVec F S1x512x256 .f32) (k : PP F) : PP F :=
  .op (.load yM (yR s).toLoadRect (View.loadsAt_vmem h_S1x512x256)) fun _ =>
  .op (.store yM (yR s) v Finset.univ (View.stores_vmem_bits_univ h_S1x512x256 rfl) (.inl rfl)) fun _ => k
def storeO (v : FVec F S512x256 .f32) (k : PP F) : PP F :=
  .op (.load oM (oR c).toLoadRect (View.loadsAt_vmem h_S512x256)) fun _ =>
  .op (.store oM (oR c) v Finset.univ (View.stores_vmem_bits_univ h_S512x256 rfl) (.inl rfl)) fun _ => k
/-- The transfer of step `r + 1`, to device `n`. -/
def send (n : Dev nD) (r : Fin 16) (s : Fin 2) (k : PP F) : PP F :=
  .op (.enqueueDma (ySlot s) (.remote (Dev.tc n) (oRow c) (.dma (sdSem r))) (.dma (rvSem r)) ((View.wordExact_bits rfl).reshape _ _) (View.wordExact_bits rfl) ⟨⟨rfl, Or.inl rfl⟩, trivial⟩) fun _ => k
def waitSd (r : Fin 16) (s : Fin 2) (k : PP F) : PP F :=
  .op (.waitDma2 (sdSem r) (oRow c) (ySlot s) (View.wordExact_bits rfl) ((View.wordExact_bits rfl).reshape _ _)) fun _ => k
def waitRvs : List (Fin 15) → PP F → PP F
  | [], k => k
  | r :: l, k => .op (.waitDma2 (rvSem r.succ) (ySlot 0) (oFrom c r) ((View.wordExact_bits rfl).reshape _ _) (View.wordExact_bits rfl)) fun _ => waitRvs l k

/-- The part of step `r` that waits for its columns and reads them, those of the next step started before. -/
def getW (r r' : Fin 16) (s s' : Fin 2) (k : Vec F S1x8192x256 .f32 → PP F) : PP F :=
  startLd c r' s' (waitLd c r s (loadB s k))

/-- The part of step `r + 1` that stores its block in its slot and sends it. -/
def putY (x : Vec F S512x8192 .f32) (w : Vec F S1x8192x256 .f32) (r : Fin 15) (s : Fin 2) (k : PP F) : PP F :=
  storeY s (blkY x w) (send c (sndDev c r) r.succ s k)

/-- Steps 3 to 14: `p` the step less three. -/
def steps (x : Vec F S512x8192 .f32) : List (Fin 12 × Fin 2 × Fin 2) → PP F → PP F
  | [], k => k
  | (p, s, s') :: l, k =>
    getW c ⟨p.val + 3, by omega⟩ ⟨p.val + 4, by omega⟩ s s' fun w =>
      waitSd c ⟨p.val + 1, by omega⟩ s (putY c x w ⟨p.val + 2, by omega⟩ s (steps x l k))

end Ops

/-- Steps 3 to 14 with their slots. -/
abbrev stepList : List (Fin 12 × Fin 2 × Fin 2) :=
  [(0, 1, 0), (1, 0, 1), (2, 1, 0), (3, 0, 1), (4, 1, 0), (5, 0, 1), (6, 1, 0), (7, 0, 1), (8, 1, 0), (9, 0, 1), (10, 1, 0), (11, 0, 1)]
abbrev peerList : List (Fin 15) := [0, 1, 2, 3, 4, 5, 6, 7, 8, 9, 10, 11, 12, 13, 14]

/-- The body on device `c`. -/
def prog (c : Dev nD) : PP F :=
  signals c peerList <|
  .op (.semWait barS (15#32).toInt) fun _ =>
  startLd c 0 0 <|
  .op (.load xM xR.toLoadRect (View.loadsAt_vmem h_S512x8192)) fun x =>
  getW c 0 1 0 1 fun w => storeO c (blkO x w) <|
  getW c 1 2 1 0 fun w => putY c x w 0 1 <|
  getW c 2 3 0 1 fun w => putY c x w 1 0 <|
  steps c x stepList <|
  waitLd c 15 1 <| loadB 1 fun w => waitSd c 13 1 <| putY c x w 14 1 <|
  waitSd c 14 0 <| waitSd c 15 1 <|
  waitRvs c peerList <| .ret ⟨⟩

/-- The printed body on what the pipeline calls it with. -/
abbrev body (F : FTy → Type) [FloatOps F] : PP F :=
  cc0_body (F := F) (Memref.whole cc0_stg0_0) (Memref.isWhole_whole _) (Memref.whole main_arg1) (Memref.isWhole_whole _)
   (Memref.whole cc0_stg1_0) (Memref.isWhole_whole _) (Memref.whole cc0_scratch0) (Memref.isWhole_whole _) (Memref.whole cc0_scratch1) (Memref.isWhole_whole _)
   cc0_scratch2 cc0_scratch3 cc0_scratch4

set_option maxHeartbeats 4000000 in
set_option maxRecDepth 65536 in
/-- The printed body reads its device and runs `prog` there. -/
theorem body_eq : body F = .op .deviceId fun c => prog c := by
  rw [body, cc0_body_eq_skeleton]; unfold cc0_body_skel
  rw [k0_part48_eq_skeleton]; unfold k0_part48_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel k0_part44_skel k0_part45_skel k0_part46_skel k0_part47_skel
  simp only [semSignalWord, semWaitWord, Prog.lift, Prog.bind_op, Prog.bind_ret, Prog.pure_eq_ret]
  rfl

end Cert.KernelIdeal.A2A

end
-- ==== Proof.KernelIdeal.Proto.lean ====
/-
The protocol of the all-to-all: the peers, the semaphore cells and who pays each, what each landing hands over, what a
device owes, and the levels that order the waits.

* barrier cell of device c: 15 duties of one unit. Duty d is paid by `peer c d`, which hands over the 512 rows of its own
  result buffer that device c is to write.
* send cell r of device c (r = 0 … 14): one duty, paid by c's own transfer of step r + 1, which hands back the slot of the
  result double buffer that was sent.
* receive cell r of device c: one duty, paid by the transfer of step r + 1 of `peer c r.rev`, which hands over the 512 rows
  of c's result buffer holding that device's block.
* load cells: a device's own copies of 256 columns of `w`; they are no cells of the protocol.

A device waits for its barrier before it sends, so what it waits for at its barrier is paid by devices that have not waited
yet: barrier cells are below receive cells, and everything a device pays to itself is below both.
-/
module

public import proofs.«01_k».proof.Proof.KernelIdeal.Prog
public import Idealize.ShloMosaic.Lib.Pipeline.Value

@[expose] public section

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the pipeline's, the protocol's rounds (duties named by a step), the local copies' -/

abbrev UB : Type := URounds (GSem nD τ sig) (Fin 15)
abbrev UU : Type := UR sig nD τ × (UB × Counters)

abbrev MM (F : FTy → Type) : Type := MT nD τ sig Unit (Elt F) ℕ UU ℕ
local notation "𝕄" => MT nD τ sig Unit (Elt F) ℕ UU ℕ

abbrev EP : Emb (UR sig nD τ) (MT nD τ sig Unit (Elt F) ℕ UU ℕ) := embL
abbrev ERC : Emb (UB × Counters) (MT nD τ sig Unit (Elt F) ℕ UU ℕ) := embR

/-! ## Peers -/

/-- The device a device sends to at step r + 1. -/
def peer (c : Dev nD) (r : Fin 15) : Dev nD := ⟨(c.val + r.val + 1) % 16, Nat.mod_lt _ (by decide)⟩
theorem peer_rev (c : Dev nD) (r : Fin 15) : peer (peer c r) r.rev = c := by revert c r; decide +kernel
theorem peer_rev' (c : Dev nD) (r : Fin 15) : peer (peer c r.rev) r = c := by revert c r; decide +kernel
theorem peer_ne (c : Dev nD) (r : Fin 15) : peer c r ≠ c := by revert c r; decide +kernel
theorem peer_inj (c : Dev nD) : Function.Injective (peer c) := by revert c; decide +kernel
theorem sigDev_eq (c : Dev nD) (r : Fin 15) : sigDev c r = peer c r := by revert c r; decide +kernel
theorem sndDev_eq (c : Dev nD) (r : Fin 15) : sndDev c r = peer c r := by revert c r; decide +kernel

/-- The devices renamed by a step: c stands for the device it sends to. -/
def peerE (r : Fin 15) : Dev nD ≃ Dev nD := ⟨fun c => peer c r, fun c => peer c r.rev, fun c => peer_rev c r, fun c => peer_rev' c r⟩
/-- All devices, by their distance from c. -/
def around (c : Dev nD) : Fin 16 ≃ Dev nD :=
  ⟨fun j => ⟨(c.val + j.val) % 16, Nat.mod_lt _ (by decide)⟩, fun d => ⟨(d.val + (16 - c.val)) % 16, Nat.mod_lt _ (by decide)⟩,
    fun j => by revert c j; decide +kernel, fun d => by revert c d; decide +kernel⟩
theorem around_zero (c : Dev nD) : around c 0 = c := by revert c; decide +kernel
theorem around_succ (c : Dev nD) (r : Fin 15) : around c r.succ = peer c r := by revert c r; decide +kernel
/-- The step at which device s computes device d's block. -/
def stepTo (s d : Dev nD) : Fin 16 := (around s).symm d
theorem stepTo_self (c : Dev nD) : stepTo c c = 0 := by revert c; decide +kernel
theorem stepTo_peer (c : Dev nD) (r : Fin 15) : stepTo c (peer c r) = r.succ := by revert c r; decide +kernel
theorem stepTo_peer_rev (c : Dev nD) (r : Fin 15) : stepTo (peer c r) c = r.rev.succ := by revert c r; decide +kernel

/-! ## Cells -/

abbrev barCell (c : Dev nD) : GSem nD τ sig := ((c : Thread nD τ), .reg barS)
abbrev sdCell (c : Dev nD) (r : Fin 15) : GSem nD τ sig := ((c : Thread nD τ), .dma (sdSem r.succ))
abbrev rvCell (c : Dev nD) (r : Fin 15) : GSem nD τ sig := ((c : Thread nD τ), .dma (rvSem r.succ))
abbrev ldCell (c : Dev nD) (s : Fin 2) : GSem nD τ sig := ((c : Thread nD τ), .dma (ldSem s))

/-- What a semaphore is for. -/
inductive Role where
  | bar | sd (r : Fin 15) | rv (r : Fin 15) | other
deriving DecidableEq

def role : SemLoc sig → Role
  | .reg _ => .bar
  | .dma q => if q.val < 5 then .other else if q.val < 20 then .sd (Fin.ofNat 15 (q.val - 5)) else if q.val = 20 then .other else .rv (Fin.ofNat 15 (q.val - 21))

theorem role_bar : role (.reg barS) = .bar := rfl
theorem role_sd (r : Fin 15) : role (.dma (sdSem r.succ)) = .sd r := by revert r; decide +kernel
theorem role_rv (r : Fin 15) : role (.dma (rvSem r.succ)) = .rv r := by revert r; decide +kernel
theorem role_ld (s : Fin 2) : role (.dma (ldSem s)) = .other := by revert s; decide +kernel

/-- The protocol's cells of one device. -/
abbrev CK : Type := Option (Bool × Fin 15)
abbrev csem : CK → SemLoc sig
  | none => .reg barS | some (false, r) => .dma (sdSem r.succ) | some (true, r) => .dma (rvSem r.succ)
abbrev kcell (ck : Dev nD × CK) : GSem nD τ sig := ((ck.1 : Thread nD τ), csem ck.2)

/-- The units one block's transfer credits, and those one column copy credits. -/
abbrev N : ℕ := (ySlot 0).view.dmaCredit
theorem N_pos : 0 < N := View.dmaCredit_pos _ (by decide)
abbrev NB : ℕ := (bSlot 0).view.dmaCredit
theorem NB_pos : 0 < NB := View.dmaCredit_pos _ (by decide)

/-! ## Contents -/

variable (m : (ℓ : Loc nD τ sig) → Buf (Elt F) ℓ)

/-- The block of `x` on device c. -/
def xstg (c : Dev nD) : (cc0_stg0_0 : Ref sig .tc).ty.Contents (Elt F) :=
  (win0_0.blk (0 : Fin 1)).view.read (Elt F) (m ((c : Thread nD τ).loc main_arg0))
/-- The 256 columns of `w` that device c loads at step r, as a slot holds them. -/
def wv (c : Dev nD) (r : Fin 16) : Vec F S1x8192x256 .f32 :=
  shapeCast S1x8192x256 ((wCol c r).view.read (Elt F) (m ((c : Thread nD τ).loc main_arg1))) (by decide)
/-- The block that device s computes for device d. -/
def blk (s d : Dev nD) : Vec F S512x256 .f32 := blkO (xstg m s) (wv m s (stepTo s d))

/-- The slot of the double buffers that step n uses. -/
def sl (n : ℕ) : Fin 2 := ⟨n % 2, Nat.mod_lt _ (by decide)⟩

/-- Slot s of the column double buffer, slot s of the result double buffer, and the rows of device n's result that device s
    writes, at contents f. -/
def bPts (c : Dev nD) (s : Fin 2) (f : Buf (Elt F) ((bSlot s).view.loc (c : Thread nD τ))) : sProp 𝕄 :=
  (bSlot s).view.loc (c : Thread nD τ) ↦[(bSlot s).view.set]{fullShare} f
def yPts (c : Dev nD) (s : Fin 2) (f : Buf (Elt F) ((ySlot s).view.loc (c : Thread nD τ))) : sProp 𝕄 :=
  (ySlot s).view.loc (c : Thread nD τ) ↦[(ySlot s).view.set]{fullShare} f
def rowPts (n s : Dev nD) (f : Buf (Elt F) ((oRow s).view.loc (n : Thread nD τ))) : sProp 𝕄 :=
  (oRow s).view.loc (n : Thread nD τ) ↦[(oRow s).view.set]{fullShare} f

/-- The slot at some contents; the rows at some contents; the rows holding the block sent to them. -/
def yAny (c : Dev nD) (s : Fin 2) : sProp 𝕄 := iprop(∃ f, yPts c s f)
def rowAny (n s : Dev nD) : sProp 𝕄 := iprop(∃ f, rowPts n s f)
def rowHas (n s : Dev nD) : sProp 𝕄 := iprop(∃ f, ⌜(oRow s).view.read (Elt F) f = blk m s n⌝ ∗ rowPts n s f)

instance yAny_storable (c : Dev nD) (s : Fin 2) : BI.Storable (upEmb : UEmb _ 𝕄) (yAny (F := F) c s) := by unfold yAny yPts; infer_instance
instance rowAny_storable (n s : Dev nD) : BI.Storable (upEmb : UEmb _ 𝕄) (rowAny (F := F) n s) := by unfold rowAny rowPts; infer_instance
instance rowHas_storable (n s : Dev nD) : BI.Storable (upEmb : UEmb _ 𝕄) (rowHas m n s) := by unfold rowHas rowPts; infer_instance

/-! ## The schedule -/

/-- What a landing on device c's semaphore of a role hands over. -/
def payOf (c : Dev nD) (d : Fin 15) : Role → sProp 𝕄
  | .bar => rowAny (peer c d) c
  | .sd r => yAny c (sl (r.val + 1))
  | .rv r => rowHas m c (peer c r.rev)
  | .other => iprop(emp)

def dutiesOf : Role → Finset (Fin 15)
  | .bar => Finset.univ | .sd _ => {0} | .rv _ => {0} | .other => ∅

instance payOf_storable (c : Dev nD) (d : Fin 15) (ro : Role) : BI.Storable (upEmb : UEmb _ 𝕄) (payOf m c d ro) := by
  cases ro <;> unfold payOf <;> infer_instance

def Rd : Rounds.Schedule (GSem nD τ sig) (Fin 15) 𝕄 where
  duties g r := if r = 0 ∧ g.1.2 = .tc then dutiesOf (role g.2) else ∅
  unitless _ := False
  amount g _ _ := if role g.2 = .bar then 1 else N
  payload g _ d := payOf m g.1.1 d (role g.2)
  amount_pos g _ _ _ := by
    by_cases h : role g.2 = .bar
    · rw [if_pos h]; exact Nat.one_pos
    · rw [if_neg h]; exact N_pos

instance Rd_payload_storable (g : GSem nD τ sig) (r : ℕ) (d : Fin 15) : BI.Storable (upEmb : UEmb _ 𝕄) ((Rd (F := F) m).payload g r d) := by
  unfold Rd; infer_instance

section Sched
variable (c : Dev nD) (r : Fin 15)

theorem duties_bar : (Rd (F := F) m).duties (barCell c) 0 = Finset.univ := by dsimp only [Rd]; rw [if_pos ⟨rfl, rfl⟩, role_bar]; rfl
theorem duties_sd : (Rd (F := F) m).duties (sdCell c r) 0 = {0} := by dsimp only [Rd]; rw [if_pos ⟨rfl, rfl⟩, role_sd]; rfl
theorem duties_rv : (Rd (F := F) m).duties (rvCell c r) 0 = {0} := by dsimp only [Rd]; rw [if_pos ⟨rfl, rfl⟩, role_rv]; rfl
theorem duties_later (g : GSem nD τ sig) : ∀ r, 1 ≤ r → (Rd (F := F) m).duties g r = ∅ :=
  fun r hr => by dsimp only [Rd]; rw [if_neg fun h => by omega]

theorem amount_bar (d : Fin 15) : (Rd (F := F) m).amount (barCell c) 0 d = 1 := by dsimp only [Rd]; exact if_pos rfl
theorem amount_sd (d : Fin 15) : (Rd (F := F) m).amount (sdCell c r) 0 d = N := by dsimp only [Rd]; rw [role_sd]; exact if_neg (fun h => by cases h)
theorem amount_rv (d : Fin 15) : (Rd (F := F) m).amount (rvCell c r) 0 d = N := by dsimp only [Rd]; rw [role_rv]; exact if_neg (fun h => by cases h)

theorem expect_bar : (Rd (F := F) m).expect (barCell c) 0 = 15 := by
  unfold Schedule.expect Schedule.amountOf
  rw [duties_bar, Finset.sum_congr rfl fun d _ => amount_bar m c d, Finset.sum_const, Finset.card_univ, Fintype.card_fin, smul_eq_mul]
theorem expect_sd : (Rd (F := F) m).expect (sdCell c r) 0 = N := by
  unfold Schedule.expect Schedule.amountOf; rw [duties_sd, Finset.sum_singleton, amount_sd]
theorem expect_rv : (Rd (F := F) m).expect (rvCell c r) 0 = N := by
  unfold Schedule.expect Schedule.amountOf; rw [duties_rv, Finset.sum_singleton, amount_rv]

theorem payload_bar (d : Fin 15) : (Rd (F := F) m).payload (barCell c) 0 d = rowAny (peer c d) c := rfl
theorem payload_sd (d : Fin 15) : (Rd (F := F) m).payload (sdCell c r) 0 d = yAny c (sl (r.val + 1)) := by dsimp only [Rd]; rw [role_sd]; rfl
theorem payload_rv (d : Fin 15) : (Rd (F := F) m).payload (rvCell c r) 0 d = rowHas m c (peer c r.rev) := by dsimp only [Rd]; rw [role_rv]; rfl

theorem rest_bar : bigSep ((Rd (F := F) m).duties (barCell c) 0 \ ∅) (fun d => (Rd (F := F) m).payload (barCell c) 0 d)
    = bigSep Finset.univ fun d => rowAny (F := F) (peer c d) c := by
  rw [Finset.sdiff_empty, duties_bar]; rfl
theorem rest_sd : bigSep ((Rd (F := F) m).duties (sdCell c r) 0 \ ∅) (fun d => (Rd (F := F) m).payload (sdCell c r) 0 d) = yAny c (sl (r.val + 1)) := by
  rw [Finset.sdiff_empty, duties_sd, bigSep_singleton, payload_sd]
theorem rest_rv : bigSep ((Rd (F := F) m).duties (rvCell c r) 0 \ ∅) (fun d => (Rd (F := F) m).payload (rvCell c r) 0 d) = rowHas m c (peer c r.rev) := by
  rw [Finset.sdiff_empty, duties_rv, bigSep_singleton, payload_rv]

end Sched

/-! ## Steps still to come, steps done -/

/-- The steps from n on; the steps before n. -/
def frm (n : ℕ) : Finset (Fin 15) := Finset.univ.filter (n ≤ ·.val)
def upto (n : ℕ) : Finset (Fin 15) := Finset.univ.filter (·.val < n)
theorem frm_zero : frm 0 = Finset.univ := by decide
theorem frm_end : frm 15 = ∅ := by decide
theorem upto_zero : upto 0 = ∅ := by decide
theorem upto_end : upto 15 = Finset.univ := by decide
theorem notMem_frm (r : Fin 15) : r ∉ frm (r.val + 1) := by simp [frm]
theorem notMem_upto (r : Fin 15) : r ∉ upto r.val := by simp [upto]
theorem frm_eq (r : Fin 15) : frm r.val = insert r (frm (r.val + 1)) := by revert r; decide +kernel
theorem upto_succ (r : Fin 15) : upto (r.val + 1) = insert r (upto r.val) := by revert r; decide +kernel

theorem frm_peel {M : Type} [URA M] (r : Fin 15) (Φ : Fin 15 → sProp M) : bigSep (frm r.val) Φ = iprop(Φ r ∗ bigSep (frm (r.val + 1)) Φ) := by
  rw [frm_eq, bigSep_insert (notMem_frm r)]; rfl
theorem upto_push {M : Type} [URA M] (r : Fin 15) (Φ : Fin 15 → sProp M) : bigSep (upto (r.val + 1)) Φ = iprop(Φ r ∗ bigSep (upto r.val) Φ) := by
  rw [upto_succ, bigSep_insert (notMem_upto r)]; rfl

/-! ## What a device owes -/

/-- With the steps before n sent: a block's credit to the peer of each step from n on. -/
def Or (c : Dev nD) (n : ℕ) : CellTallies nD τ sig Unit := ∑ r ∈ frm n, tallyAt (rvCell (peer c r) r) () N
/-- With the first n peers signalled: all of that and a barrier unit to each peer from n on. -/
def Ob (c : Dev nD) (n : ℕ) : CellTallies nD τ sig Unit := Or c 0 + ∑ r ∈ frm n, tallyAt (barCell (peer c r)) () 1
/-- At launch. -/
def O₀ (c : Dev nD) : CellTallies nD τ sig Unit := Ob c 0

theorem Or_peel (c : Dev nD) (r : Fin 15) : Or c r.val = Or c (r.val + 1) + tallyAt (rvCell (peer c r) r) () N := by
  unfold Or; rw [frm_eq, Finset.sum_insert (notMem_frm r), add_comm]
theorem Or_end (c : Dev nD) : Or c 15 = 0 := by unfold Or; rw [frm_end, Finset.sum_empty]
theorem Ob_peel (c : Dev nD) (r : Fin 15) : Ob c r.val = Ob c (r.val + 1) + tallyAt (barCell (peer c r)) () 1 := by
  unfold Ob; rw [frm_eq, Finset.sum_insert (notMem_frm r), add_assoc]; congr 1; rw [add_comm]
theorem Ob_end (c : Dev nD) : Ob c 15 = Or c 0 := by unfold Ob; rw [frm_end, Finset.sum_empty, add_zero]

def L (g : GSem nD τ sig) : Finset Unit := if g.1.2 = .tc then {()} else ∅
/-- The level of a role: barrier cells at 1, receive cells at 2, the rest at 0. -/
def lvR : Role → ℕ | .bar => 1 | .rv _ => 2 | .sd _ => 0 | .other => 0
def lv (g : GSem nD τ sig) (_ : Unit) : ℕ := lvR (role g.2)

theorem L_of_ne (g : GSem nD τ sig) (h : g.1.2 ≠ .tc) : L g = ∅ := if_neg h
theorem L_tc (c : Dev nD) (sm : SemLoc sig) : L ((c : Thread nD τ), sm) = {()} := if_pos rfl
theorem lv_rv (c : Dev nD) (r : Fin 15) (u : Unit) : lv (rvCell c r) u = 2 := by dsimp only [lv]; rw [role_rv]; rfl

theorem sum_tally_pos {I : Type} (S : Finset I) (cell : I → GSem nD τ sig) (n : ℕ) {g : GSem nD τ sig} {u : Unit}
    (h : 0 < (∑ r ∈ S, (tallyAt (cell r) () n : CellTallies nD τ sig Unit)) g u) : ∃ r, g = cell r := by
  by_contra hn
  rw [Finset.sum_apply, Finsupp.finsetSum_apply] at h
  rw [Finset.sum_eq_zero fun r _ => by rw [tallyAt_apply, if_neg fun h' => hn ⟨r, h'.1⟩]] at h
  exact Nat.lt_irrefl 0 h

theorem Or_pos {c : Dev nD} {n : ℕ} {g : GSem nD τ sig} {u : Unit} (h : 0 < Or c n g u) : ∃ r, g = rvCell (peer c r) r := sum_tally_pos _ _ _ h
theorem Ob_pos {c : Dev nD} {n : ℕ} {g : GSem nD τ sig} {u : Unit} (h : 0 < Ob c n g u) : (∃ r, g = rvCell (peer c r) r) ∨ ∃ r, g = barCell (peer c r) := by
  unfold Ob at h
  rw [Pi.add_apply, Finsupp.add_apply] at h
  rcases Nat.eq_zero_or_pos (Or c 0 g u) with h0 | h0
  · rw [h0, Nat.zero_add] at h; exact Or.inr (sum_tally_pos _ _ _ h)
  · exact Or.inl (Or_pos h0)

/-- Owing blocks only, a device may wait at any of its cells below the receive cells. -/
theorem mayWait_or (c : Dev nD) (n : ℕ) (sm : SemLoc sig) (hs : lvR (role sm) < 2) :
    (levAts L lv : sProp 𝕄) ⊢ MayWait (c : Thread nD τ) sm () (Or c n) :=
  MayOwe.of_cut (L := L) (lev := lv) 1 (fun p hp => by rw [Finset.mem_singleton.mp hp, L_tc]; exact Finset.mem_singleton_self _)
    (fun g u hg => by obtain ⟨r, rfl⟩ := Or_pos hg; exact Finset.mem_singleton_self _)
    (fun p hp => by rw [Finset.mem_singleton.mp hp]; dsimp only [lv]; omega)
    (fun g u hg => by obtain ⟨r, rfl⟩ := Or_pos hg; rw [lv_rv]; decide)

/-- Owing what it owes at launch, or nothing, a device may wait at any of its cells at level 0. -/
theorem mayWait_stage (c : Dev nD) (sm : SemLoc sig) (hs : lvR (role sm) = 0) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by rcases Ob_pos hg with ⟨r, rfl⟩ | ⟨r, rfl⟩ <;> exact Finset.mem_singleton_self _)
      (fun p hp => by rw [Finset.mem_singleton.mp hp]; dsimp only [lv]; omega)
      (fun g u hg => by
        rcases Ob_pos hg with ⟨r, rfl⟩ | ⟨r, rfl⟩
        · rw [lv_rv]; decide
        · exact Nat.one_pos)
  · rw [MayWait_zero]; iintro -; iempintro

end Cert.KernelIdeal.A2A

end
-- ==== Proof.KernelIdeal.Slots.lean ====
/-
The two double buffers' slots, the staged block of `x`, and the column copies: what each operation on them does.

A slot of the column double buffer is free (any contents, its half share of `w`, its semaphore at zero), flying (a copy of
the columns of a step in flight into it) or full (it holds those columns).
-/
module

public import proofs.«01_k».proof.Proof.KernelIdeal.Proto
public import Idealize.ShloMosaic.Lib.Transfers

@[expose] public section

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev ER : Emb UB (MT nD τ sig Unit (Elt F) ℕ UU ℕ) := (Emb.inl : Emb UB (UB × Counters)).trans embR
abbrev EC : UEmb Counters (MT nD τ sig Unit (Elt F) ℕ UU ℕ) := countersEmb

abbrev 𝒱₀ : Variants := Variants.none

/-- The weakest precondition of a program of the kernel's on device c. -/
abbrev wpc (c : Dev nD) (Q : PUnit → sProp 𝕄) (p : PP F) : sProp 𝕄 :=
  wp frame (wpE (defs₀ (F := F)) 𝒱₀ (c : Thread nD τ) none) Set.univ p Q

variable (m : (ℓ : Loc nD τ sig) → Buf (Elt F) ℓ)

/-! ## Reading and writing a slot -/

theorem bset (s : Fin 2) : (bSlot s).view.set = bM.view.setOn (bR s).set :=
  (View.set_reshape (v := bM.view.slice (bR s)) _).trans (View.set_slice _ _)
theorem yset (s : Fin 2) : (ySlot s).view.set = yM.view.setOn (yR s).set :=
  (View.set_reshape (v := yM.view.slice (yR s)) _).trans (View.set_slice _ _)
theorem yset' (s : Fin 2) : (ySlot s).view.set = (yM.access (yR s)).set := View.set_reshape (v := yM.view.slice (yR s)) _

theorem casts_b : S1x8192x256.ShapeCasts S8192x256 := by decide
theorem casts_y : S1x512x256.ShapeCasts S512x256 := by decide

/-- A slot filled with a step's columns is read as them. -/
theorem read_bSlot (c : Dev nD) (s : Fin 2) (r : Fin 16) (fd : bM.view.ty.Contents (Elt F)) :
    bM.view.readAt (Elt F) (bR s).toLoadRect ((bSlot s).view.write (Elt F) fd ((wCol c r).view.read (Elt F) (m ((c : Thread nD τ).loc main_arg1))) Finset.univ)
      = wv m c r := by
  have h := View.read_write_univ (v := (bSlot s).view) (Val := Elt F) fd ((wCol c r).view.read (Elt F) (m ((c : Thread nD τ).loc main_arg1)))
  rw [Memref.read_squeeze_slice bM (bR s) (fun _ => rfl) squeezes_S1x8192x256_S8192x256 casts_b] at h
  rw [wv, ← congrArg (fun u => shapeCast S1x8192x256 u _) h]
  exact (shapeCast_shapeCast _ _ _).symm

/-- A slot a block was stored into is read as it. -/
theorem read_ySlot (s : Fin 2) (v : Vec F S512x256 .f32) (f : yM.view.ty.Contents (Elt F)) :
    (ySlot s).view.read (Elt F) ((yM.access (yR s)).write (Elt F) f (shapeCast S1x512x256 v shapeCasts_S512x256_S1x512x256) Finset.univ) = v := by
  rw [Memref.read_squeeze_slice yM (yR s) (fun _ => rfl) squeezes_S1x512x256_S512x256 casts_y]
  refine (congrArg (fun u => shapeCast S512x256 u casts_y) (View.read_write_univ (v := yM.access (yR s)) (Val := Elt F) f _)).trans ?_
  exact shapeCast_shapeCast _ _ _

/-! ## The column copies -/

/-- The share of `w` a slot's copy reads it with. -/
def hw (s : Fin 2) : PosShare TreeShare := if s = 0 then fullShare.left else fullShare.right
/-- `w` on device c, the elements S of it, at a slot's share. -/
def wPts (c : Dev nD) (s : Fin 2) (S : Finset (Idx (wM.view.loc (c : Thread nD τ)))) : sProp 𝕄 :=
  wM.view.loc (c : Thread nD τ) ↦[S]{hw s} m ((c : Thread nD τ).loc main_arg1)

/-- A slot free; one with a copy of step r's columns in flight into it; one that holds them. -/
def WFree (c : Dev nD) (s : Fin 2) : sProp 𝕄 := iprop((∃ f, bPts c s f) ∗ wPts m c s Finset.univ ∗ semVal (ldCell c s) 0)
def WFly (c : Dev nD) (s : Fin 2) (r : Fin 16) : sProp 𝕄 :=
  iprop((∃ fd, Transfers.Flight EC (c : Thread nD τ) (.dma (ldSem s)) () NB
      iprop(bPts c s ((bSlot s).view.write (Elt F) fd ((wCol c r).view.read (Elt F) (m ((c : Thread nD τ).loc main_arg1))) Finset.univ)
        ∗ wPts m c s (wCol c r).view.set)) ∗ wPts m c s (Finset.univ \ (wCol c r).view.set))
def WHas (c : Dev nD) (s : Fin 2) (r : Fin 16) : sProp 𝕄 :=
  iprop((∃ f, ⌜bM.view.readAt (Elt F) (bR s).toLoadRect f = wv m c r⌝ ∗ bPts c s f) ∗ wPts m c s Finset.univ ∗ semVal (ldCell c s) 0)

/-- What a device owes with the steps before n sent. -/
def Owes (c : Dev nD) (n : ℕ) : sProp 𝕄 := iprop(∃ W, owes (c : Thread nD τ) (Or c n) W)

section
variable (c : Dev nD)

/-- Starting the copy of a step's columns into a free slot. -/
theorem wp_startLd {Q : PUnit → sProp 𝕄} (r : Fin 16) (s : Fin 2) (k : PP F) :
    iprop(WFree m c s ∗ (WFly m c s r -∗ wpc c Q k)) ⊢ wpc c Q (startLd c r s k) := by
  unfold WFree WFly startLd bPts wPts
  iintro ⟨⟨⟨%f, Hb⟩, Hw, Hv⟩, Hk⟩
  ihave Hw' := (pointsTo_split_subset (Finset.subset_univ (wCol c r).view.set)).1 $$ Hw
  icases Hw' with ⟨Hw, Hr⟩
  iapply (Transfers.wp_dmaLocal EC 𝒱₀ (c : Thread nD τ) none (via := .same) (src := wCol c r) (dst := bSlot s) (sm := .dma (ldSem s)) () NB rfl NB_pos (Finset.Subset.refl _)) $$ [Hb Hw Hv]
  · isplitl [Hw]; · iexact Hw
    isplitl [Hb]; · iexact Hb
    iexact Hv
  iintro HF
  iapply Hk
  isplitl [HF]
  · iexists f; iexact HF
  iexact Hr

/-- Waiting for it. -/
theorem wp_waitLd {Q : PUnit → sProp 𝕄} (n : ℕ) (r : Fin 16) (s : Fin 2) (k : PP F) :
    iprop(WFly m c s r ∗ Owes c n ∗ levAts L lv ∗ (iprop(WHas m c s r ∗ Owes c n) -∗ wpc c Q k)) ⊢ wpc c Q (waitLd c r s k) := by
  unfold WFly WHas waitLd Owes bPts wPts
  iintro ⟨⟨⟨%fd, HF⟩, Hr⟩, ⟨%W, HO⟩, #Hlev, Hk⟩
  iapply (Transfers.wp_waitLocalO EC 𝒱₀ (c : Thread nD τ) none (sem := ldSem s) (srcw := wCol c r) (dstw := bSlot s) () (N := NB) rfl) $$ [HF HO]
  · isplitl [HF]; · iexact HF
    isplitl [HO]; · iexact HO
    iapply (mayWait_or c n (.dma (ldSem s)) (by rw [role_ld]; decide)); iexact Hlev
  iintro ⟨⟨Hb, Hw⟩, Hv, HO⟩
  iapply Hk
  isplitr [HO]
  · isplitl [Hb]
    · iexists _; isplitr; · ipureintro; exact read_bSlot m c s r fd
      iexact Hb
    isplitl [Hw Hr]
    · iapply (pointsTo_split_subset (Finset.subset_univ (wCol c r).view.set)).2
      isplitl [Hw] <;> iassumption
    iexact Hv
  · iexists _; iexact HO

/-- Reading a full slot leaves it free. -/
theorem wp_loadB {Q : PUnit → sProp 𝕄} (r : Fin 16) (s : Fin 2) (k : Vec F S1x8192x256 .f32 → PP F) :
    iprop(WHas m c s r ∗ (WFree m c s -∗ wpc c Q (k (wv m c r)))) ⊢ wpc c Q (loadB s k) := by
  unfold WHas WFree loadB bPts
  iintro ⟨⟨⟨%f, %hf, Hb⟩, Hw, Hv⟩, Hk⟩
  iapply (wp_load 𝒱₀ (c : Thread nD τ) none Set.univ (m := bM) (S := (bSlot s).view.set) (by rw [bset])) $$ Hb
  iintro Hb
  rw [hf]
  iapply Hk
  isplitl [Hb]; · iexists f; iexact Hb
  isplitl [Hw] <;> iassumption

/-- A step's columns waited for and read, those of the next started before. -/
theorem wp_getW {Q : PUnit → sProp 𝕄} (n : ℕ) (r r' : Fin 16) (s s' : Fin 2) (k : Vec F S1x8192x256 .f32 → PP F) :
    iprop(WFree m c s' ∗ WFly m c s r ∗ Owes c n ∗ levAts L lv
        ∗ (iprop(WFly m c s' r' ∗ WFree m c s ∗ Owes c n) -∗ wpc c Q (k (wv m c r)))) ⊢ wpc c Q (getW c r r' s s' k) := by
  unfold getW
  iintro ⟨Hf, Hy, HO, #Hlev, Hk⟩
  iapply (wp_startLd m c r' s')
  isplitl [Hf]; · iexact Hf
  iintro Hy'
  iapply (wp_waitLd m c n r s)
  isplitl [Hy]; · iexact Hy
  isplitl [HO]; · iexact HO
  isplitr; · iexact Hlev
  iintro ⟨Hh, HO⟩
  iapply (wp_loadB m c r s)
  isplitl [Hh]; · iexact Hh
  iintro Hf
  iapply Hk
  isplitl [Hy']; · iexact Hy'
  isplitl [Hf] <;> iassumption

/-- Storing a block into a slot of the result double buffer. -/
theorem wp_storeY {Q : PUnit → sProp 𝕄} (s : Fin 2) (v : Vec F S512x256 .f32) (k : PP F) :
    iprop(yAny c s ∗ (iprop(∃ f, ⌜(ySlot s).view.read (Elt F) f = v⌝ ∗ yPts c s f) -∗ wpc c Q k))
      ⊢ wpc c Q (storeY s (shapeCast S1x512x256 v shapeCasts_S512x256_S1x512x256) k) := by
  unfold yAny yPts storeY
  iintro ⟨⟨%f, Hy⟩, Hk⟩
  iapply (wp_load 𝒱₀ (c : Thread nD τ) none Set.univ (m := yM) (S := (ySlot s).view.set) (by rw [yset])) $$ Hy
  iintro Hy
  iapply (wp_store 𝒱₀ (c : Thread nD τ) none Set.univ (m := yM) (r := yR s) (Mk := Finset.univ) (S := (ySlot s).view.set)
    (by rw [yset']; exact Finset.Subset.refl _)) $$ Hy
  iintro Hy
  iapply Hk
  iexists _; isplitr; · ipureintro; exact read_ySlot s v f
  iexact Hy

end

end Cert.KernelIdeal.A2A

end
-- ==== Proof.KernelIdeal.Remote.lean ====
/-
What passes between devices: the entry signals and the wait for them, the transfers, the waits on the send and receive
cells. Each is stated once at a symbolic step, and the lists of the program by induction.
-/
module

public import proofs.«01_k».proof.Proof.KernelIdeal.Slots

@[expose] public section

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-! ## What is known of every cell -/

/-- Every cell's invariant, under the names K, and that every cell is at round 0 or later. -/
def records : sProp 𝕄 :=
  iprop((bigSep Finset.univ fun ck : Dev nD × CK => cellInv ER (Rd m) (K ck) (kcell ck))
    ∗ bigSep Finset.univ fun ck : Dev nD × CK => reached ER (kcell ck) 0)
instance records_persistent : BI.Persistent (records m K) := by unfold records; infer_instance

theorem records_inv (ck : Dev nD × CK) : records m K ⊢ cellInv ER (Rd m) (K ck) (kcell ck) := by
  have h : (bigSep Finset.univ fun ck : Dev nD × CK => (cellInv ER (Rd m) (K ck) (kcell ck) : sProp 𝕄)) ⊢ cellInv ER (Rd m) (K ck) (kcell ck) :=
    bigSep_elim (Finset.mem_univ ck)
  unfold records; iintro ⟨#H, -⟩; iapply h; iexact H
theorem records_reached (ck : Dev nD × CK) : records m K ⊢ reached ER (kcell ck) 0 := by
  have h : (bigSep Finset.univ fun ck : Dev nD × CK => (reached ER (kcell ck) 0 : sProp 𝕄)) ⊢ reached ER (kcell ck) 0 :=
    bigSep_elim (Finset.mem_univ ck)
  unfold records; iintro ⟨-, #H⟩; iapply h; iexact H

/-! ## A step's resources -/

section
variable (c : Dev nD) (r : Fin 15)

/-- To signal the peer of a step: the peer's barrier duty, and the rows the peer is to write. -/
def SigR : sProp 𝕄 := iprop(dutyTok ER (barCell (peer c r)) 0 r.rev ∗ rowAny c (peer c r))
/-- To send a step's block: both duties and the position at the send cell. -/
def SndT : sProp 𝕄 := iprop(dutyTok ER (rvCell (peer c r) r) 0 0 ∗ dutyTok ER (sdCell c r) 0 0 ∗ atPos ER (sdCell c r) 0 ∅ 0)
/-- That with the rows to write. -/
def SndR : sProp 𝕄 := iprop(rowAny (peer c r) c ∗ SndT c r)
/-- A step's block sent, its wait to come; waited for. -/
def SndW : sProp 𝕄 := iprop(cred (tallyAt (sdCell c r) () N) ∗ atPos ER (sdCell c r) 0 ∅ 0)
def SndD : sProp 𝕄 := atPos ER (sdCell c r) (0 + 1) ∅ 0
/-- A block to be received; received. -/
def RcvW : sProp 𝕄 := iprop(cred (tallyAt (rvCell c r) () N) ∗ atPos ER (rvCell c r) 0 ∅ 0)
def RcvD : sProp 𝕄 := iprop(atPos ER (rvCell c r) (0 + 1) ∅ 0 ∗ rowHas m c (peer c r.rev))
end

/-- A list naming the steps from n on, in order. -/
def Consec : ℕ → List (Fin 15) → Prop
  | n, [] => n = 15
  | n, r :: l => r.val = n ∧ Consec (n + 1) l
theorem consec_peerList : Consec 0 peerList := ⟨rfl, rfl, rfl, rfl, rfl, rfl, rfl, rfl, rfl, rfl, rfl, rfl, rfl, rfl, rfl, rfl⟩

variable (c : Dev nD)

/-! ## The entry barrier -/

/-- One signal: the rows the peer is to write go with it. -/
theorem wp_signal1 {Q : PUnit → sProp 𝕄} (r : Fin 15) (k : PP F) :
    iprop(records m K ∗ (∃ W, owes (c : Thread nD τ) (Ob c r.val) W) ∗ SigR c r
        ∗ ((∃ W, owes (c : Thread nD τ) (Ob c (r.val + 1)) W) -∗ wpc c Q k))
      ⊢ wpc c Q (.op (.semSignal (sigDev c r, .tc) barS (1#32).toInt) fun _ => k) := by
  unfold SigR
  rw [sigDev_eq]
  iintro ⟨#HR, ⟨%W, HO⟩, ⟨Ht, Hrow⟩, Hk⟩
  iapply (Rounds.wp_signal 𝒱₀ ER (Rd m) (c : Thread nD τ) none (dst := (peer c r : Thread nD τ)) (κ := K (peer c r, none))
      (d := r.rev) (by rw [duties_bar]; exact Finset.mem_univ _) ((amount_bar m (peer c r) r.rev).trans (by decide)) () (Ob c (r.val + 1)) (Ob_peel c r))
    $$ [HO Ht Hrow]
  · isplitr; · iapply (records_inv m K (peer c r, none)); iexact HR
    isplitl [HO]; · iexact HO
    isplitl [Ht]; · iexact Ht
    isplitl [Hrow]; · rw [payload_bar, peer_rev]; iexact Hrow
    iapply (records_reached m K (peer c r, none)); iexact HR
  iintro HO
  iapply Hk
  iexists W; iexact HO

/-- The signals from step n on. -/
theorem wp_signals {Q : PUnit → sProp 𝕄} (k : PP F) (l : List (Fin 15)) : ∀ n, Consec n l →
    iprop(records m K ∗ (∃ W, owes (c : Thread nD τ) (Ob c n) W) ∗ bigSep (frm n) (SigR c) ∗ (Owes c 0 -∗ wpc c Q k)) ⊢ wpc c Q (signals c l k) := by
  induction l with
  | nil =>
    intro n h; obtain rfl : n = 15 := h
    unfold signals Owes
    rw [Ob_end]
    iintro ⟨-, HO, -, Hk⟩
    iapply Hk; iexact HO
  | cons r l ih =>
    rintro n ⟨rfl, hl⟩
    rw [frm_peel]
    unfold signals
    iintro ⟨#HR, HO, ⟨Hs, Hl⟩, Hk⟩
    iapply (wp_signal1 m K c r)
    isplitr; · iexact HR
    isplitl [HO]; · iexact HO
    isplitl [Hs]; · iexact Hs
    iintro HO
    iapply (ih _ hl)
    isplitr; · iexact HR
    isplitl [HO]; · iexact HO
    isplitl [Hl] <;> iassumption

/-- The wait for the fifteen peers' signals: each hands over the rows of its result that this device writes. -/
theorem wp_barrier {Q : PUnit → sProp 𝕄} (k : PP F) :
    iprop(records m K ∗ levAts L lv ∗ Owes c 0 ∗ cred (tallyAt (barCell c) () 15) ∗ atPos ER (barCell c) 0 ∅ 0
        ∗ (iprop(Owes c 0 ∗ atPos ER (barCell c) (0 + 1) ∅ 0 ∗ bigSep Finset.univ fun r => rowAny (peer c r) c) -∗ wpc c Q k))
      ⊢ wpc c Q (.op (.semWait barS (15#32).toInt) fun _ => k) := by
  unfold Owes
  iintro ⟨#HR, #Hlev, ⟨%W, HO⟩, Hc, Hat, Hk⟩
  iapply (Rounds.wp_wait_rest_token 𝒱₀ ER (Rd m) (c : Thread nD τ) none (κ := K (c, none))
      (wpE_semWait_eq 𝒱₀ (c : Thread nD τ) none Set.univ) (Set.mem_univ _) () (O := Or c 0) (W := W) (R := 0) (m := 0) (T := ∅)
      (by rw [expect_bar]; decide)) $$ [Hc HO Hat]
  · isplitr; · iapply (records_inv m K (c, none)); iexact HR
    isplitl [Hc]; · iexact Hc
    isplitl [HO]; · iexact HO
    isplitr; · iapply (mayWait_or c 0 (.reg barS) (by rw [role_bar]; decide)); iexact Hlev
    iexact Hat
  iintro ⟨HO, Hat, -, Hpay⟩
  ihave Hp := (Entails.of_eq (rest_bar m c)) $$ Hpay
  iapply Hk
  isplitl [HO]; · iexists _; iexact HO
  isplitl [Hat] <;> iassumption

/-! ## The transfers -/

/-- One transfer's start, to device n, which is the peer of the step: the slot is lent, the block goes to the rows. -/
theorem wp_send1 {Q : PUnit → sProp 𝕄} (n : Dev nD) (r : Fin 15) (s : Fin 2) (hn : n = peer c r) (hs : s = sl (r.val + 1)) (k : PP F) :
    iprop(records m K ∗ (∃ f, ⌜(ySlot s).view.read (Elt F) f = blk m c (peer c r)⌝ ∗ yPts c s f) ∗ SndR c r ∗ Owes c r.val
        ∗ (iprop(SndW c r ∗ Owes c (r.val + 1)) -∗ wpc c Q k))
      ⊢ wpc c Q (send c n r.succ s k) := by
  subst hn
  unfold send SndR SndT SndW Owes yPts rowAny rowPts
  iintro ⟨#HR, ⟨%fy, %hfy, Hy⟩, ⟨⟨%fr, Hrow⟩, Htv, Hts, Hat⟩, ⟨%W, HO⟩, Hk⟩
  iapply (Rounds.wp_send_pointsTo 𝒱₀ ER (Rd m) (c : Thread nD τ) none (κ₁ := K (c, some (false, r))) (κ₂ := K (peer c r, some (true, r)))
    (r₁ := 0) (r₂ := 0) (d₁ := 0) (d₂ := 0) (fd := fr)
    (by rw [duties_sd]; exact Finset.mem_singleton_self _) (by rw [duties_rv]; exact Finset.mem_singleton_self _)
    () () N rfl (amount_sd m c r 0) (amount_rv m (peer c r) r 0) (Or c (r.val + 1)) (Or_peel c r) (W := W)
    (by rw [payload_sd, ← hs]; unfold yAny yPts; iintro H; iexists fy; iexact H)
    (by
      rw [payload_rv, peer_rev]; unfold rowHas rowPts
      iintro H; iexists _; isplitr
      · ipureintro; exact (View.read_write_univ (v := (oRow c).view) (Val := Elt F) fr _).trans hfy
      · iexact H)) $$ [Hy Hrow HO Hts Htv]
  · isplitr; · iapply (records_inv m K (c, some (false, r))); iexact HR
    isplitr; · iapply (records_inv m K (peer c r, some (true, r))); iexact HR
    isplitl [Hy]; · iexact Hy
    isplitl [Hrow]; · iexact Hrow
    isplitl [HO]; · iexact HO
    isplitl [Hts]; · iexact Hts
    isplitr; · iapply (records_reached m K (c, some (false, r))); iexact HR
    isplitl [Htv]; · iexact Htv
    iapply (records_reached m K (peer c r, some (true, r))); iexact HR
  iintro ⟨Hc, HO⟩
  iapply Hk
  isplitl [Hc Hat]
  · isplitl [Hc] <;> iassumption
  iexists W; iexact HO

/-- A step's block stored in its slot and sent. -/
theorem wp_putY {Q : PUnit → sProp 𝕄} (r : Fin 15) (s : Fin 2) (hs : s = sl (r.val + 1)) (k : PP F) :
    iprop(records m K ∗ yAny c s ∗ SndR c r ∗ Owes c r.val ∗ (iprop(SndW c r ∗ Owes c (r.val + 1)) -∗ wpc c Q k))
      ⊢ wpc c Q (putY c (xstg m c) (wv m c r.succ) r s k) := by
  have hb : blkY (xstg m c) (wv m c r.succ) = shapeCast S1x512x256 (blk m c (peer c r)) shapeCasts_S512x256_S1x512x256 := by
    unfold blk; rw [stepTo_peer]; rfl
  unfold putY
  rw [hb]
  iintro ⟨#HR, Hy, Hs, HO, Hk⟩
  iapply (wp_storeY c s)
  isplitl [Hy]; · iexact Hy
  iintro Hy
  iapply (wp_send1 m K c _ r s (sndDev_eq c r) hs)
  isplitr; · iexact HR
  isplitl [Hy]; · iexact Hy
  isplitl [Hs]; · iexact Hs
  isplitl [HO] <;> iassumption

/-- The wait for a sent block: its slot comes back. -/
theorem wp_waitSd {Q : PUnit → sProp 𝕄} (n : ℕ) (r : Fin 15) (s : Fin 2) (hs : s = sl (r.val + 1)) (k : PP F) :
    iprop(records m K ∗ levAts L lv ∗ SndW c r ∗ Owes c n ∗ (iprop(yAny c s ∗ SndD c r ∗ Owes c n) -∗ wpc c Q k))
      ⊢ wpc c Q (waitSd c r.succ s k) := by
  unfold waitSd SndW SndD Owes
  iintro ⟨#HR, #Hlev, ⟨Hc, Hat⟩, ⟨%W, HO⟩, Hk⟩
  iapply (Rounds.wp_wait_rest_token 𝒱₀ ER (Rd m) (c : Thread nD τ) none (κ := K (c, some (false, r)))
      (wpE_waitDma2_eq 𝒱₀ (c : Thread nD τ) none Set.univ) (Set.mem_univ _) () (O := Or c n) (W := W) (R := 0) (m := 0) (T := ∅)
      (by rw [Nat.zero_add, expect_sd])) $$ [Hc HO Hat]
  · isplitr; · iapply (records_inv m K (c, some (false, r))); iexact HR
    isplitl [Hc]; · iexact Hc
    isplitl [HO]; · iexact HO
    isplitr; · iapply (mayWait_or c n (.dma (sdSem r.succ)) (by rw [role_sd]; exact Nat.two_pos)); iexact Hlev
    iexact Hat
  iintro ⟨HO, Hat, -, Hpay⟩
  ihave Hp := (Entails.of_eq ((rest_sd m c r).trans (congrArg (yAny c) hs.symm))) $$ Hpay
  iapply Hk
  isplitl [Hp]; · iexact Hp
  isplitl [Hat]; · iexact Hat
  iexists _; iexact HO

/-! ## The receive waits -/

/-- The waits from step n on: each hands over the rows its sender wrote. -/
theorem wp_waitRvs {Q : PUnit → sProp 𝕄} (k : PP F) (l : List (Fin 15)) : ∀ n, Consec n l →
    iprop(records m K ∗ Owes c 15 ∗ bigSep (frm n) (RcvW c) ∗ bigSep (upto n) (RcvD m c)
        ∗ (iprop(Owes c 15 ∗ bigSep Finset.univ (RcvD m c)) -∗ wpc c Q k)) ⊢ wpc c Q (waitRvs c l k) := by
  induction l with
  | nil =>
    intro n h; obtain rfl : n = 15 := h
    unfold waitRvs
    rw [upto_end]
    iintro ⟨-, HO, -, Hd, Hk⟩
    iapply Hk
    isplitl [HO] <;> iassumption
  | cons r l ih =>
    rintro n ⟨rfl, hl⟩
    rw [frm_peel]
    unfold waitRvs
    iintro ⟨#HR, HO, ⟨Hs, Hl⟩, Hd, Hk⟩
    unfold Owes
    icases HO with ⟨%W, HO⟩
    ihave Hs' := (show RcvW (F := F) c r ⊢ iprop(cred (tallyAt (rvCell c r) () N) ∗ atPos ER (rvCell c r) 0 ∅ 0) from .rfl) $$ Hs
    icases Hs' with ⟨Hc, Hat⟩
    iapply (Rounds.wp_wait_rest_token 𝒱₀ ER (Rd m) (c : Thread nD τ) none (κ := K (c, some (true, r)))
        (wpE_waitDma2_eq 𝒱₀ (c : Thread nD τ) none Set.univ) (Set.mem_univ _) () (O := Or c 15) (W := W) (R := 0) (m := 0) (T := ∅)
        (by rw [Nat.zero_add, expect_rv])) $$ [Hc HO Hat]
    · isplitr; · iapply (records_inv m K (c, some (true, r))); iexact HR
      isplitl [Hc]; · iexact Hc
      isplitl [HO]; · iexact HO
      isplitr; · rw [Or_end, MayWait_zero]; iempintro
      iexact Hat
    iintro ⟨HO, Hat, -, Hpay⟩
    ihave Hp := (Entails.of_eq (rest_rv m c r)) $$ Hpay
    iapply (ih _ hl)
    isplitr; · iexact HR
    isplitl [HO]; · unfold Owes; iexists _; iexact HO
    isplitl [Hl]; · iexact Hl
    isplitr [Hk]
    · rw [upto_push]
      isplitl [Hat Hp]
      · unfold RcvD
        isplitl [Hat] <;> iassumption
      iexact Hd
    · unfold Owes; iexact Hk

end Cert.KernelIdeal.A2A

end
-- ==== Proof.KernelIdeal.Buffers.lean ====
/-
The buffers in pieces: the result's sixteen blocks of 512 rows, the two slots of each double buffer, the two halves of `w`'s
share; each split at the start and joined at the end. The result joined is `outAt`, the blocks of all devices stacked.
-/
module

public import proofs.«01_k».proof.Proof.KernelIdeal.Remote
public import Idealize.ShloMosaic.Lib.Ring
public import Idealize.ShloMosaic.Lib.ValueIdxCore

@[expose] public section

noncomputable section

namespace Cert.KernelIdeal.A2A

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## One step and the others -/

theorem bigSep_succ {M : Type} [URA M] {n : ℕ} (Φ : Fin (n + 1) → sProp M) :
    bigSep Finset.univ Φ = iprop(Φ 0 ∗ bigSep Finset.univ fun r : Fin n => Φ r.succ) := by
  rw [Fin.univ_succ, Finset.cons_eq_insert, bigSep_insert (by simp), bigSep_map]
  rfl

/-- Something of every device is that of a device and of its fifteen peers. -/
theorem bigSep_around {M : Type} [URA M] (c : Dev nD) (Φ : Dev nD → sProp M) :
    bigSep Finset.univ Φ = iprop(Φ c ∗ bigSep Finset.univ fun r : Fin 15 => Φ (peer c r)) := by
  rw [bigSep_univ_equiv (around c) Φ, bigSep_succ, around_zero]
  exact congrArg (fun Z : sProp M => iprop(Φ c ∗ Z)) (bigSep_congr fun r _ => by rw [around_succ])

/-- The same with the peers in the order their blocks arrive. -/
theorem bigSep_around_rev {M : Type} [URA M] (c : Dev nD) (Φ : Dev nD → sProp M) :
    bigSep Finset.univ Φ = iprop(Φ c ∗ bigSep Finset.univ fun r : Fin 15 => Φ (peer c r.rev)) := by
  rw [bigSep_around c, bigSep_univ_equiv Fin.revPerm (fun r : Fin 15 => Φ (peer c r))]
  rfl

/-! ## The result -/

theorem off3_0 (s : Dev nD) : k0_off3 s 0 = 512 * s.val := by rw [k0_off3_eq]; rfl
theorem off3_1 (s : Dev nD) : k0_off3 s 1 = 0 := by rw [k0_off3_eq]; rfl

/-- The elements of a device's rows. -/
def oJ (s : Dev nD) : Finset S8192x256.Idx := (Rect.unit (s := S8192x256) (k0_off3 s) S512x256.size (k0_off3_inb s)).set
theorem oset (s : Dev nD) : (oRow s).view.set = oJ s := View.set_slice_whole _ _

theorem oJ_disjoint (s s' : Dev nD) (h : s ≠ s') : Disjoint (oJ s) (oJ s') :=
  Ring.lead_disjoint (s := S8192x256) (0 : Fin 2) 512 k0_off3 S512x256.size k0_off3_inb off3_0 rfl s s' h

theorem oJ_cover : Finset.univ.biUnion oJ = Finset.univ :=
  Ring.lead_cover (s := S8192x256) (0 : Fin 2) 512 k0_off3 S512x256.size k0_off3_inb off3_0
    (fun b a ha => by
      have : a = (1 : Fin 2) := by revert ha; revert a; decide
      subst this; exact off3_1 b) rfl (by decide) rfl

theorem rowPts_eq (n s : Dev nD) (f : Buf (Elt F) ((n : Thread nD τ).loc cc0_stg1_0)) :
    rowPts n s f = (((n : Thread nD τ).loc cc0_stg1_0) ↦[oJ s]{fullShare} f : sProp 𝕄) :=
  congrArg (fun S => (((n : Thread nD τ).loc cc0_stg1_0) ↦[S]{fullShare} f : sProp 𝕄)) (oset s)

/-- The result on device c: row R holds row R % 512 of the block device R / 512 computes for c. -/
def outAt (c : Dev nD) : Vec F S8192x256 .f32 := fun i =>
  blk m ⟨(i (0 : Fin 2)).val / 512, by have := idx2_lt0 i; change _ < 16; omega⟩ c
    (ix2 ⟨(i (0 : Fin 2)).val % 512, Nat.mod_lt _ (by decide)⟩ ⟨(i (1 : Fin 2)).val, idx2_lt1 i⟩)

/-- The element of a device's rows at a block's index, by coordinates. -/
theorem oRow_emb (s : Dev nD) (x : S512x256.Idx) :
    (((oRow s).view.emb x : S8192x256.Idx) (0 : Fin 2)).val = 512 * s.val + (x (0 : Fin 2)).val
      ∧ (((oRow s).view.emb x : S8192x256.Idx) (1 : Fin 2)).val = (x (1 : Fin 2)).val := by
  constructor
  · show k0_off3 s 0 + 1 * (x (0 : Fin 2)).val = _
    rw [off3_0]; omega
  · show k0_off3 s 1 + 1 * (x (1 : Fin 2)).val = _
    rw [off3_1]; omega

theorem outAt_at (c s : Dev nD) (x : S512x256.Idx) (i : S8192x256.Idx) (h0 : (i (0 : Fin 2)).val = 512 * s.val + (x (0 : Fin 2)).val)
    (h1 : (i (1 : Fin 2)).val = (x (1 : Fin 2)).val) : outAt m c i = blk m s c x := by
  have hx := idx2_lt0 x
  unfold outAt
  exact congrArg₂ (fun (d : Dev nD) (y : S512x256.Idx) => blk m d c y) (Fin.ext (show (i (0 : Fin 2)).val / 512 = s.val by omega))
    ((congrArg₂ ix2 (Fin.ext (show (i (0 : Fin 2)).val % 512 = (x (0 : Fin 2)).val by omega)) (Fin.ext h1)).trans (eq_ix2 x).symm)

theorem outAt_emb (c s : Dev nD) (x : S512x256.Idx) : outAt m c ((oRow s).view.emb x) = blk m s c x :=
  outAt_at m c s x _ (oRow_emb s x).1 (oRow_emb s x).2

/-- The result's staging buffer is the rows of a device and of its peers; -/
theorem rows_split (c : Dev nD) (f : Buf (Elt F) ((c : Thread nD τ).loc cc0_stg1_0)) :
    (((c : Thread nD τ).loc cc0_stg1_0) ↦{fullShare} f : sProp 𝕄) ⊢ iprop(rowAny c c ∗ bigSep Finset.univ fun r : Fin 15 => rowAny c (peer c r)) := by
  have h1 : ∀ s : Dev nD, (((c : Thread nD τ).loc cc0_stg1_0) ↦[oJ s]{fullShare} f : sProp 𝕄) ⊢ rowAny c s := fun s => by
    rw [← rowPts_eq]; unfold rowAny
    iintro H; iexists f; iexact H
  rw [← bigSep_around c (fun s => rowAny (F := F) c s), Ring.pointsTo_blocks oJ oJ_disjoint oJ_cover f]
  exact bigSep_mono fun s _ => h1 s

/-- each at the block sent to it, they are the result. -/
theorem rows_join (c : Dev nD) :
    iprop(rowHas m c c ∗ bigSep Finset.univ fun r : Fin 15 => rowHas m c (peer c r.rev))
      ⊢ (((c : Thread nD τ).loc cc0_stg1_0) ↦{fullShare} (outAt m c) : sProp 𝕄) := by
  have h1 : ∀ s : Dev nD, rowHas m c s ⊢ (((c : Thread nD τ).loc cc0_stg1_0) ↦[oJ s]{fullShare} (outAt m c) : sProp 𝕄) := fun s => by
    unfold rowHas
    iintro ⟨%f, %hf, H⟩
    have e : rowPts c s f = (((c : Thread nD τ).loc cc0_stg1_0) ↦[oJ s]{fullShare} (outAt m c) : sProp 𝕄) := by
      rw [rowPts_eq]
      refine pointsTo_congr fun i hi => ?_
      rw [← oset] at hi
      obtain ⟨x, -, rfl⟩ := Finset.mem_map.mp hi
      refine Eq.trans ?_ (outAt_emb m c s x).symm
      rw [← hf]; rfl
    rw [← e]; iexact H
  rw [← bigSep_around_rev c (fun s => rowHas m c s),
    Ring.pointsTo_blocks (ℓ := (c : Thread nD τ).loc cc0_stg1_0) oJ oJ_disjoint oJ_cover (outAt m c)]
  exact bigSep_mono fun s _ => h1 s

/-! ## The double buffers -/

def bJ (s : Fin 2) : Finset S2x8192x256.Idx := (bR s).set
theorem bset_rect (s : Fin 2) : (bSlot s).view.set = bJ s :=
  (View.set_reshape (v := bM.view.slice (bR s)) _).trans (View.set_slice_whole _ _)
theorem bJ_disjoint (s s' : Fin 2) (h : s ≠ s') : Disjoint (bJ s) (bJ s') :=
  Ring.lead_disjoint (s := S2x8192x256) (0 : Fin 3) 1 (fun s : Fin 2 => ![s.val, 0, 0]) S1x8192x256.size inb_b (by decide) rfl s s' h
theorem bJ_cover : Finset.univ.biUnion bJ = Finset.univ :=
  Ring.lead_cover (s := S2x8192x256) (0 : Fin 3) 1 (fun s : Fin 2 => ![s.val, 0, 0]) S1x8192x256.size inb_b (by decide) (by decide) rfl (by decide) rfl
theorem bPts_eq (c : Dev nD) (s : Fin 2) (f : Buf (Elt F) ((c : Thread nD τ).loc cc0_scratch0)) :
    bPts c s f = (((c : Thread nD τ).loc cc0_scratch0) ↦[bJ s]{fullShare} f : sProp 𝕄) :=
  congrArg (fun S => (((c : Thread nD τ).loc cc0_scratch0) ↦[S]{fullShare} f : sProp 𝕄)) (bset_rect s)

theorem b_split (c : Dev nD) :
    iprop(∃ f : Buf (Elt F) ((c : Thread nD τ).loc cc0_scratch0), ((c : Thread nD τ).loc cc0_scratch0) ↦{fullShare} f)
      ⊢ (iprop((∃ f, bPts c 0 f) ∗ ∃ f, bPts c 1 f) : sProp 𝕄) :=
  Ring.slots2_split (ℓ := (c : Thread nD τ).loc cc0_scratch0) bJ bJ_disjoint bJ_cover (bPts (F := F) c 0) (bPts (F := F) c 1) (bPts_eq c 0) (bPts_eq c 1)
theorem b_join (c : Dev nD) :
    iprop((∃ f, bPts c 0 f) ∗ ∃ f, bPts c 1 f)
      ⊢ (iprop(∃ f : Buf (Elt F) ((c : Thread nD τ).loc cc0_scratch0), ((c : Thread nD τ).loc cc0_scratch0) ↦{fullShare} f) : sProp 𝕄) :=
  Ring.slots2_join (ℓ := (c : Thread nD τ).loc cc0_scratch0) bJ bJ_disjoint bJ_cover (bPts (F := F) c 0) (bPts (F := F) c 1) (bPts_eq c 0) (bPts_eq c 1)

def yJ (s : Fin 2) : Finset S2x512x256.Idx := (yR s).set
theorem yset_rect (s : Fin 2) : (ySlot s).view.set = yJ s :=
  (View.set_reshape (v := yM.view.slice (yR s)) _).trans (View.set_slice_whole _ _)
theorem yJ_disjoint (s s' : Fin 2) (h : s ≠ s') : Disjoint (yJ s) (yJ s') :=
  Ring.lead_disjoint (s := S2x512x256) (0 : Fin 3) 1 (fun s : Fin 2 => ![s.val, 0, 0]) S1x512x256.size inb_y (by decide) rfl s s' h
theorem yJ_cover : Finset.univ.biUnion yJ = Finset.univ :=
  Ring.lead_cover (s := S2x512x256) (0 : Fin 3) 1 (fun s : Fin 2 => ![s.val, 0, 0]) S1x512x256.size inb_y (by decide) (by decide) rfl (by decide) rfl
theorem yPts_eq (c : Dev nD) (s : Fin 2) (f : Buf (Elt F) ((c : Thread nD τ).loc cc0_scratch1)) :
    yPts c s f = (((c : Thread nD τ).loc cc0_scratch1) ↦[yJ s]{fullShare} f : sProp 𝕄) :=
  congrArg (fun S => (((c : Thread nD τ).loc cc0_scratch1) ↦[S]{fullShare} f : sProp 𝕄)) (yset_rect s)

theorem y_split (c : Dev nD) :
    iprop(∃ f : Buf (Elt F) ((c : Thread nD τ).loc cc0_scratch1), ((c : Thread nD τ).loc cc0_scratch1) ↦{fullShare} f)
      ⊢ (iprop((∃ f, yPts c 0 f) ∗ ∃ f, yPts c 1 f) : sProp 𝕄) :=
  Ring.slots2_split (ℓ := (c : Thread nD τ).loc cc0_scratch1) yJ yJ_disjoint yJ_cover (yPts (F := F) c 0) (yPts (F := F) c 1) (yPts_eq c 0) (yPts_eq c 1)
theorem y_join (c : Dev nD) :
    iprop((∃ f, yPts c 0 f) ∗ ∃ f, yPts c 1 f)
      ⊢ (iprop(∃ f : Buf (Elt F) ((c : Thread nD τ).loc cc0_scratch1), ((c : Thread nD τ).loc cc0_scratch1) ↦{fullShare} f) : sProp 𝕄) :=
  Ring.slots2_join (ℓ := (c : Thread nD τ).loc cc0_scratch1) yJ yJ_disjoint yJ_cover (yPts (F := F) c 0) (yPts (F := F) c 1) (yPts_eq c 0) (yPts_eq c 1)

/-! ## `w` -/

/-- `w` on device c, whole. -/
def wWhole (c : Dev nD) : sProp 𝕄 := ((c : Thread nD τ).loc main_arg1) ↦{fullShare} m ((c : Thread nD τ).loc main_arg1)

theorem w_halves (c : Dev nD) : wWhole m c ⊣⊢ iprop(wPts m c 0 Finset.univ ∗ wPts m c 1 Finset.univ) :=
  pointsTo_share fullShare.mem_left_op_right

end Cert.KernelIdeal.A2A

end
-- ==== Proof.KernelIdeal.Body.lean ====
/-
The body of the kernel on one device: from its buffers, its positions, its duties and the credits it waits for, to its
result holding the blocks of all devices, with everything it owned at zero again.
-/
module

public import proofs.«01_k».proof.Proof.KernelIdeal.Buffers

@[expose] public section

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-! ## The loads of x and the local block -/

theorem hz : (![0, 0] : Fin 2 → Nat) = fun _ => 0 := funext fun a => by fin_cases a <;> rfl

theorem read_x (f : (cc0_stg0_0 : Ref sig .tc).ty.Contents (Elt F)) : xM.view.readAt (Elt F) xR.toLoadRect f = f :=
  Memref.readAt_unit_zero (Elt F) cc0_stg0_0 hz _ f

theorem off2_off3 (c : Dev nD) : k0_off2 c = k0_off3 c := (k0_off2_eq c).trans (k0_off3_eq c).symm

/-- The rows a block is stored into, read back. -/
theorem read_rows (off off' : Fin 2 → Nat) (h : off = off') (inb : ∀ a, off a + S512x256.size a ≤ S8192x256.size a)
    (inb' : ∀ a, off' a + S512x256.size a ≤ S8192x256.size a) (f : oM.view.ty.Contents (Elt F)) (v : Vec F S512x256 .f32) :
    (oM.slice (Rect.unit (s := S8192x256) off' S512x256.size inb') (fun _ => rfl)).view.read (Elt F)
      ((oM.access (Rect.unit (s := S8192x256) off S512x256.size inb)).write (Elt F) f v Finset.univ) = v := by
  subst h; exact View.read_write_univ (v := oM.access (Rect.unit (s := S8192x256) off S512x256.size inb)) (Val := Elt F) f v

theorem oset' : (oRow c).view.set = (oM.access (oR c)).set := by
  have h : ∀ (off off' : Fin 2 → Nat) (h : off = off') (inb : ∀ a, off a + S512x256.size a ≤ S8192x256.size a)
    (inb' : ∀ a, off' a + S512x256.size a ≤ S8192x256.size a),
    (oM.slice (Rect.unit (s := S8192x256) off' S512x256.size inb') (fun _ => rfl)).view.set
      = (oM.access (Rect.unit (s := S8192x256) off S512x256.size inb)).set := by
    intro off off' h inb inb'; subst h; rfl
  exact h _ _ (off2_off3 c) _ _

theorem oset_on : (oRow c).view.set = oM.view.setOn (oR c).set := (oset' c).trans (View.set_slice _ _)

/-- Storing the local block. -/
theorem wp_storeO {Q : PUnit → sProp 𝕄} (k : PP F) :
    iprop(rowAny c c ∗ (rowHas m c c -∗ wpc c Q k)) ⊢ wpc c Q (storeO c (blkO (xstg m c) (wv m c 0)) k) := by
  unfold rowAny rowHas rowPts storeO
  have hb : blkO (xstg m c) (wv m c 0) = blk m c c := by unfold blk; rw [stepTo_self]
  rw [hb]
  iintro ⟨⟨%f, Ho⟩, Hk⟩
  iapply (wp_load 𝒱₀ (c : Thread nD τ) none Set.univ (m := oM) (S := (oRow c).view.set) (by rw [oset_on])) $$ Ho
  iintro Ho
  iapply (wp_store 𝒱₀ (c : Thread nD τ) none Set.univ (m := oM) (r := oR c) (Mk := Finset.univ) (S := (oRow c).view.set)
    (by rw [oset']; exact Finset.Subset.refl _)) $$ Ho
  iintro Ho
  iapply Hk
  iexists _; isplitr; · ipureintro; exact read_rows _ _ (off2_off3 c) _ _ f (blk m c c)
  iexact Ho

/-! ## Steps 3 to 14 -/

theorem sl_two (n : ℕ) : sl (n + 2) = sl n := Fin.ext (by show (n + 2) % 2 = n % 2; omega)

/-- A list naming steps 3 + n, … 14 with their slots, in order. -/
def ConsecS : ℕ → List (Fin 12 × Fin 2 × Fin 2) → Prop
  | n, [] => n = 12
  | n, (p, s, s') :: l => p.val = n ∧ s = sl (n + 3) ∧ s' = sl (n + 4) ∧ ConsecS (n + 1) l
theorem consec_stepList : ConsecS 0 stepList := by
  refine ⟨rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl⟩

/-- Before step n + 3: its columns are in flight into its slot, the other slot is free, the blocks of steps n + 1 and n + 2 are
    sent and not waited for, those before are. -/
def Inv (n : ℕ) (h : n ≤ 12) : sProp 𝕄 :=
  iprop(WFly m c (sl (n + 3)) ⟨n + 3, by omega⟩ ∗ WFree m c (sl (n + 4)) ∗ SndW c ⟨n, by omega⟩ ∗ SndW c ⟨n + 1, by omega⟩
    ∗ Owes c (n + 2) ∗ bigSep (frm (n + 2)) (SndR c) ∗ bigSep (upto n) (SndD c))

theorem wp_steps {Q : PUnit → sProp 𝕄} (k : PP F) (l : List (Fin 12 × Fin 2 × Fin 2)) : ∀ n (h : n ≤ 12), ConsecS n l →
    iprop(records m K ∗ levAts L lv ∗ Inv m c n h ∗ (Inv m c 12 (Nat.le_refl _) -∗ wpc c Q k)) ⊢ wpc c Q (steps c (xstg m c) l k) := by
  induction l with
  | nil =>
    intro n h hl; obtain rfl : n = 12 := hl
    unfold steps
    iintro ⟨-, -, HI, Hk⟩
    iapply Hk; iexact HI
  | cons q l ih =>
    obtain ⟨p, s, s'⟩ := q
    rintro n h ⟨rfl, rfl, rfl, hl⟩
    have hp := p.isLt
    unfold steps
    iintro ⟨#HR, #Hlev, HI, Hk⟩
    ihave HI' := (show Inv m c p.val h ⊢ iprop(WFly m c (sl (p.val + 3)) ⟨p.val + 3, by omega⟩ ∗ WFree m c (sl (p.val + 4)) ∗ SndW c ⟨p.val, by omega⟩ ∗ SndW c ⟨p.val + 1, by omega⟩
      ∗ Owes c (p.val + 2) ∗ bigSep (frm (p.val + 2)) (SndR c) ∗ bigSep (upto p.val) (SndD c)) from .rfl) $$ HI
    icases HI' with ⟨Hfly, Hfree, Hs0, Hs1, HO, HR2, HD⟩
    iapply (wp_getW m c (p.val + 2) ⟨p.val + 3, _⟩ ⟨p.val + 4, _⟩ (sl (p.val + 3)) (sl (p.val + 4)))
    isplitl [Hfree]; · iexact Hfree
    isplitl [Hfly]; · iexact Hfly
    isplitl [HO]; · iexact HO
    isplitr; · iexact Hlev
    iintro ⟨Hfly, Hfree, HO⟩
    iapply (wp_waitSd m K c (p.val + 2) ⟨p.val, by omega⟩ (sl (p.val + 3)) (sl_two (p.val + 1)))
    isplitr; · iexact HR
    isplitr; · iexact Hlev
    isplitl [Hs0]; · iexact Hs0
    isplitl [HO]; · iexact HO
    iintro ⟨Hy, Hd, HO⟩
    ihave HR2' := (Entails.of_eq (frm_peel (⟨p.val + 2, by omega⟩ : Fin 15) (SndR (F := F) c))) $$ HR2
    icases HR2' with ⟨Hr, HR2⟩
    iapply (wp_putY m K c ⟨p.val + 2, by omega⟩ (sl (p.val + 3)) rfl)
    isplitr; · iexact HR
    isplitl [Hy]; · iexact Hy
    isplitl [Hr]; · iexact Hr
    isplitl [HO]; · iexact HO
    iintro ⟨Hs2, HO⟩
    iapply (ih (p.val + 1) (by omega) hl)
    isplitr; · iexact HR
    isplitr; · iexact Hlev
    isplitr [Hk]
    · unfold Inv
      isplitl [Hfly]; · iexact Hfly
      isplitl [Hfree]; · rw [show sl (p.val + 1 + 4) = sl (p.val + 3) from sl_two (p.val + 3)]; iexact Hfree
      isplitl [Hs1]; · iexact Hs1
      isplitl [Hs2]; · iexact Hs2
      isplitl [HO]; · iexact HO
      isplitl [HR2]; · iexact HR2
      ihave HD' := (Entails.of_eq (upto_push (⟨p.val, by omega⟩ : Fin 15) (SndD (F := F) c)).symm) $$ [Hd HD]
      · isplitl [Hd] <;> iassumption
      iexact HD'
    · iexact Hk

/-! ## Closing the cells -/

theorem close1 (g : Dev nD × CK) : iprop(records m K ∗ atPos ER (kcell g) (0 + 1) ∅ 0) ⊢ (|={Set.univ}=> semVal (kcell g) 0 : sProp 𝕄) := by
  iintro ⟨#HR, Hat⟩
  iapply (Rounds.cell_close ER (Rd m) (Set.mem_univ (K g)) (fun h => h) (R := 0 + 1) (duties_later m (kcell g)))
  isplitr; · iapply (records_inv m K g); iexact HR
  iexact Hat

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem closeAll {I : Type} [DecidableEq I] [Fintype I] (g : I → Dev nD × CK) :
    iprop(records m K ∗ bigSep Finset.univ fun i : I => atPos ER (kcell (g i)) (0 + 1) ∅ 0)
      ⊢ (|={Set.univ}=> bigSep Finset.univ fun i : I => semVal (kcell (g i)) 0 : sProp 𝕄) :=
  (bigSep_with fun i _ => close1 m K (g i)).trans (bigSep_fupd _ _)

/-! ## The body -/

/-- A device's own semaphores that the protocol leaves alone: the two load cells, and the first of each array of sixteen. -/
def idle : sProp 𝕄 :=
  iprop(semVal (ldCell c 0) 0 ∗ semVal (ldCell c 1) 0 ∗ semVal ((c : Thread nD τ), .dma (sdSem 0)) 0 ∗ semVal ((c : Thread nD τ), .dma (rvSem 0)) 0)

/-- What a device's part of the protocol starts from. -/
def linear : sProp 𝕄 :=
  iprop(atPos ER (barCell c) 0 ∅ 0 ∗ (bigSep Finset.univ fun r : Fin 15 => dutyTok ER (barCell (peer c r)) 0 r.rev) ∗ bigSep Finset.univ (SndT c)
    ∗ (bigSep Finset.univ fun r : Fin 15 => atPos ER (rvCell c r) 0 ∅ 0) ∗ idle c)
/-- The credits it waits for. -/
def credits : sProp 𝕄 := iprop(cred (tallyAt (barCell c) () 15) ∗ bigSep Finset.univ fun r : Fin 15 => cred (tallyAt (rvCell c r) () N))
/-- The two double buffers at any contents. -/
def scratch : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
/-- All its semaphores at zero. -/
def zeros : sProp 𝕄 :=
  iprop(semVal (barCell c) 0 ∗ (bigSep Finset.univ fun r : Fin 15 => semVal (sdCell c r) 0) ∗ (bigSep Finset.univ fun r : Fin 15 => semVal (rvCell c r) 0) ∗ idle c)

abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxHeartbeats 1000000 in
/-- The body on device c: the result ends holding `outAt`. -/
theorem sound_prog {Q : PUnit → sProp 𝕄} (f1 : Buf (Elt F) ((c : Thread nD τ).loc cc0_stg1_0)) :
    iprop(records m K ∗ levAts L lv ∗ linear c ∗ credits c ∗ scratch c ∗ wWhole m c ∗ (∃ W, owes (c : Thread nD τ) (O₀ c) W)
        ∗ (((c : Thread nD τ).loc cc0_stg0_0) ↦{fullShare} (xstg m c)) ∗ (((c : Thread nD τ).loc cc0_stg1_0) ↦{fullShare} f1)
        ∗ (iprop(zeros c ∗ scratch c ∗ wWhole m c ∗ (∃ W, owes (c : Thread nD τ) 0 W)
            ∗ (((c : Thread nD τ).loc cc0_stg0_0) ↦{fullShare} (xstg m c)) ∗ (((c : Thread nD τ).loc cc0_stg1_0) ↦{fullShare} (outAt m c))) -∗ Q ⟨⟩))
      ⊢ wpc c Q (prog c) := by
  unfold prog linear credits scratch idle
  iintro ⟨#HR, #Hlev, ⟨Hab, Htb, Hst, Harv, Hl0, Hl1, Hz0, Hz1⟩, ⟨Hcb, Hcr⟩, ⟨Hb, Hy⟩, Hw, HO, Hx, Ho, Hk⟩
  -- the buffers in pieces
  ihave Hb' := (b_split c) $$ Hb
  icases Hb' with ⟨Hb0, Hb1⟩
  ihave Hy' := (show _ ⊢ iprop(yAny (F := F) c 0 ∗ yAny c 1) from y_split c) $$ Hy
  icases Hy' with ⟨Hy0, Hy1⟩
  ihave Hw' := (w_halves m c).1 $$ Hw
  icases Hw' with ⟨Hw0, Hw1⟩
  ihave Ho' := (rows_split c f1) $$ Ho
  icases Ho' with ⟨Hoc, Hop⟩
  -- the entry barrier
  iapply (wp_signals m K c _ peerList 0 consec_peerList)
  isplitr; · iexact HR
  isplitl [HO]; · iexact HO
  isplitl [Htb Hop]
  · rw [frm_zero]; unfold SigR; rw [bigSep_sep']
    isplitl [Htb] <;> iassumption
  iintro HO
  iapply (wp_barrier m K c)
  isplitr; · iexact HR
  isplitr; · iexact Hlev
  isplitl [HO]; · iexact HO
  isplitl [Hcb]; · iexact Hcb
  isplitl [Hab]; · iexact Hab
  iintro ⟨HO, Hab, Hrows⟩
  ihave HSr := (show iprop((bigSep Finset.univ fun r => rowAny (F := F) (peer c r) c) ∗ bigSep Finset.univ (SndT c)) ⊢ bigSep (frm 0) (SndR (F := F) c) from by
    rw [frm_zero, ← bigSep_sep']; exact .rfl) $$ [Hrows Hst]
  · isplitl [Hrows] <;> iassumption
  -- the first columns, and x
  iapply (wp_startLd m c 0 0)
  isplitl [Hb0 Hw0 Hl0]
  · unfold WFree
    isplitl [Hb0]; · iexact Hb0
    isplitl [Hw0] <;> iassumption
  iintro Hfly
  iapply (wp_load 𝒱₀ (c : Thread nD τ) none Set.univ (m := xM) (Finset.subset_univ _)) $$ Hx
  iintro Hx
  rw [read_x]
  -- step 0
  iapply (wp_getW m c 0 0 1 0 1)
  isplitl [Hb1 Hw1 Hl1]
  · unfold WFree
    isplitl [Hb1]; · iexact Hb1
    isplitl [Hw1] <;> iassumption
  isplitl [Hfly]; · iexact Hfly
  isplitl [HO]; · iexact HO
  isplitr; · iexact Hlev
  iintro ⟨Hfly, Hfree, HO⟩
  iapply (wp_storeO m c)
  isplitl [Hoc]; · iexact Hoc
  iintro Hoc
  -- step 1
  iapply (wp_getW m c 0 1 2 1 0)
  isplitl [Hfree]; · iexact Hfree
  isplitl [Hfly]; · iexact Hfly
  isplitl [HO]; · iexact HO
  isplitr; · iexact Hlev
  iintro ⟨Hfly, Hfree, HO⟩
  ihave HSr' := (show bigSep (frm 0) (SndR (F := F) c) ⊢ iprop(SndR c 0 ∗ bigSep (frm 1) (SndR c)) from Entails.of_eq (frm_peel (0 : Fin 15) (SndR (F := F) c))) $$ HSr
  icases HSr' with ⟨Hr, HSr⟩
  iapply (wp_putY m K c 0 1 rfl)
  isplitr; · iexact HR
  isplitl [Hy1]; · iexact Hy1
  isplitl [Hr]; · iexact Hr
  isplitl [HO]; · iexact HO
  iintro ⟨Hs0, HO⟩
  -- step 2
  iapply (wp_getW m c 1 2 3 0 1)
  isplitl [Hfree]; · iexact Hfree
  isplitl [Hfly]; · iexact Hfly
  isplitl [HO]; · iexact HO
  isplitr; · iexact Hlev
  iintro ⟨Hfly, Hfree, HO⟩
  ihave HSr' := (show bigSep (frm 1) (SndR (F := F) c) ⊢ iprop(SndR c 1 ∗ bigSep (frm 2) (SndR c)) from Entails.of_eq (frm_peel (1 : Fin 15) (SndR (F := F) c))) $$ HSr
  icases HSr' with ⟨Hr, HSr⟩
  iapply (wp_putY m K c 1 0 rfl)
  isplitr; · iexact HR
  isplitl [Hy0]; · iexact Hy0
  isplitl [Hr]; · iexact Hr
  isplitl [HO]; · iexact HO
  iintro ⟨Hs1, HO⟩
  -- steps 3 to 14
  iapply (wp_steps m K c _ stepList 0 (Nat.zero_le _) consec_stepList)
  isplitr; · iexact HR
  isplitr; · iexact Hlev
  isplitl [Hfly Hfree Hs0 Hs1 HO HSr]
  · unfold Inv
    isplitl [Hfly]; · iexact Hfly
    isplitl [Hfree]; · iexact Hfree
    isplitl [Hs0]; · iexact Hs0
    isplitl [Hs1]; · iexact Hs1
    isplitl [HO]; · iexact HO
    isplitl [HSr]; · iexact HSr
    rw [upto_zero, bigSep_empty]; iempintro
  iintro HI
  ihave HI' := (show Inv m c 12 (Nat.le_refl _) ⊢ iprop(WFly m c 1 15 ∗ WFree m c 0 ∗ SndW c 12 ∗ SndW c 13
      ∗ Owes c 14 ∗ bigSep (frm 14) (SndR c) ∗ bigSep (upto 12) (SndD c)) from .rfl) $$ HI
  icases HI' with ⟨Hfly, Hfree0, Hs12, Hs13, HO, HSr, HSd⟩
  -- step 15
  iapply (wp_waitLd m c 14 15 1)
  isplitl [Hfly]; · iexact Hfly
  isplitl [HO]; · iexact HO
  isplitr; · iexact Hlev
  iintro ⟨Hhas, HO⟩
  iapply (wp_loadB m c 15 1)
  isplitl [Hhas]; · iexact Hhas
  iintro Hfree1
  iapply (wp_waitSd m K c 14 12 1 rfl)
  isplitr; · iexact HR
  isplitr; · iexact Hlev
  isplitl [Hs12]; · iexact Hs12
  isplitl [HO]; · iexact HO
  iintro ⟨Hy1, Hd12, HO⟩
  ihave HSr' := (show bigSep (frm 14) (SndR (F := F) c) ⊢ iprop(SndR c 14 ∗ bigSep (frm 15) (SndR c)) from Entails.of_eq (frm_peel (14 : Fin 15) (SndR (F := F) c))) $$ HSr
  icases HSr' with ⟨Hr, -⟩
  iapply (wp_putY m K c 14 1 rfl)
  isplitr; · iexact HR
  isplitl [Hy1]; · iexact Hy1
  isplitl [Hr]; · iexact Hr
  isplitl [HO]; · iexact HO
  iintro ⟨Hs14, HO⟩
  -- the last two sends
  iapply (wp_waitSd m K c 15 13 0 rfl)
  isplitr; · iexact HR
  isplitr; · iexact Hlev
  isplitl [Hs13]; · iexact Hs13
  isplitl [HO]; · iexact HO
  iintro ⟨Hy0, Hd13, HO⟩
  iapply (wp_waitSd m K c 15 14 1 rfl)
  isplitr; · iexact HR
  isplitr; · iexact Hlev
  isplitl [Hs14]; · iexact Hs14
  isplitl [HO]; · iexact HO
  iintro ⟨Hy1, Hd14, HO⟩
  ihave HSd := (show iprop(SndD (F := F) c 12 ∗ bigSep (upto 12) (SndD c)) ⊢ bigSep (upto 13) (SndD c) from Entails.of_eq (upto_push (12 : Fin 15) (SndD (F := F) c)).symm) $$ [Hd12 HSd]
  · isplitl [Hd12] <;> iassumption
  ihave HSd := (show iprop(SndD (F := F) c 13 ∗ bigSep (upto 13) (SndD c)) ⊢ bigSep (upto 14) (SndD c) from Entails.of_eq (upto_push (13 : Fin 15) (SndD (F := F) c)).symm) $$ [Hd13 HSd]
  · isplitl [Hd13] <;> iassumption
  ihave HSd := (show iprop(SndD (F := F) c 14 ∗ bigSep (upto 14) (SndD c)) ⊢ bigSep (upto 15) (SndD c) from Entails.of_eq (upto_push (14 : Fin 15) (SndD (F := F) c)).symm) $$ [Hd14 HSd]
  · isplitl [Hd14] <;> iassumption
  -- the receives
  iapply (wp_waitRvs m K c _ peerList 0 consec_peerList)
  isplitr; · iexact HR
  isplitl [HO]; · iexact HO
  isplitl [Hcr Harv]
  · rw [frm_zero]; unfold RcvW; rw [bigSep_sep']
    isplitl [Hcr] <;> iassumption
  isplitr
  · rw [upto_zero, bigSep_empty]; iempintro
  iintro ⟨HO, HRd⟩
  ihave HRd' := (show bigSep Finset.univ (RcvD m c) ⊢ iprop((bigSep Finset.univ fun r : Fin 15 => atPos ER (rvCell c r) (0 + 1) ∅ 0)
      ∗ bigSep Finset.univ fun r : Fin 15 => rowHas m c (peer c r.rev)) from by unfold RcvD; rw [bigSep_sep']) $$ HRd
  icases HRd' with ⟨Hrat, Hrows⟩
  -- the cells close
  imod (close1 m K (c, none)) $$ [Hab] with Hzb
  · isplitr; · iexact HR
    iexact Hab
  imod (closeAll m K fun r : Fin 15 => (c, some (true, r))) $$ [Hrat] with Hzr
  · isplitr; · iexact HR
    iexact Hrat
  imod (closeAll m K fun r : Fin 15 => (c, some (false, r))) $$ [HSd] with Hzs
  · isplitr; · iexact HR
    ihave HSd' := (show bigSep (upto 15) (SndD (F := F) c) ⊢ bigSep Finset.univ (fun r : Fin 15 => atPos ER (sdCell c r) (0 + 1) ∅ 0) from by
      rw [upto_end]; exact .rfl) $$ HSd
    iexact HSd'
  -- the buffers whole again
  unfold WFree
  icases Hfree0 with ⟨Hb0, Hw0, Hl0⟩
  icases Hfree1 with ⟨Hb1, Hw1, Hl1⟩
  ihave Hb := (b_join c) $$ [Hb0 Hb1]
  · isplitl [Hb0] <;> iassumption
  ihave Hy := (show iprop(yAny (F := F) c 0 ∗ yAny c 1) ⊢ _ from y_join c) $$ [Hy0 Hy1]
  · isplitl [Hy0] <;> iassumption
  ihave Hw := (w_halves m c).2 $$ [Hw0 Hw1]
  · isplitl [Hw0] <;> iassumption
  ihave Ho := (rows_join m c) $$ [Hoc Hrows]
  · isplitl [Hoc] <;> iassumption
  rw [wp_ret]; imodintro
  iapply Hk
  isplitl [Hzb Hzr Hzs Hl0 Hl1 Hz0 Hz1]
  · unfold zeros idle
    isplitl [Hzb]; · iexact Hzb
    isplitl [Hzs]; · iexact Hzs
    isplitl [Hzr]; · iexact Hzr
    isplitl [Hl0]; · iexact Hl0
    isplitl [Hl1]; · iexact Hl1
    isplitl [Hz0] <;> iassumption
  isplitl [Hb Hy]
  · isplitl [Hb] <;> iassumption
  isplitl [Hw]; · iexact Hw
  isplitl [HO]
  · unfold Owes; rw [Or_end]; iexact HO
  isplitl [Hx] <;> iassumption

end Cert.KernelIdeal.A2A

end
-- ==== Proof.KernelIdeal.Ghost.lean ====
/-
What the launch deals: the protocol's positions and duty tokens, the invariants of every device's cells, the tokens
moved to the devices that pay them, and the credits for what a device waits for.
-/
module

public import proofs.«01_k».proof.Proof.KernelIdeal.Body

@[expose] public section

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families over a device's cells and over its duties -/

theorem bigSep_ck (Φ : CK → sProp 𝕄) : bigSep Finset.univ Φ
    = iprop(Φ none ∗ (bigSep Finset.univ fun r : Fin 15 => Φ (some (false, r))) ∗ bigSep Finset.univ fun r : Fin 15 => Φ (some (true, r))) := by
  rw [bigSep_univ_at Φ none, show (Finset.univ.erase (none : CK)) = Finset.univ.map ⟨some, Option.some_injective _⟩ from by decide, bigSep_map,
    bigSep_univ_prod, bigSep_univ_eq_bigSepL [false, true] (by decide) (by decide)]
  rfl

/-- The role of a cell of the protocol. -/
def roleK : CK → Role | none => .bar | some (false, r) => .sd r | some (true, r) => .rv r
theorem roleK_injective : Function.Injective roleK := by
  rintro (_ | ⟨_ | _, r⟩) (_ | ⟨_ | _, r'⟩) h <;> cases h <;> rfl
theorem kcell_role (ck : Dev nD × CK) : role (kcell ck).2 = roleK ck.2 := by
  obtain ⟨c, _ | ⟨_ | _, r⟩⟩ := ck
  exacts [role_bar, role_sd r, role_rv r]
theorem kcell_injective : Function.Injective kcell := by
  intro a b h
  have h1 : a.1 = b.1 := congrArg (fun g : GSem nD τ sig => g.1.1) h
  exact Prod.ext h1 (roleK_injective (by rw [← kcell_role a, ← kcell_role b, h]))

/-- A device's duties: at its barrier, at its send cells, at its receive cells. -/
abbrev TK : Type := Fin 15 ⊕ (Fin 15 ⊕ Fin 15)
abbrev tokOf (ct : Dev nD × TK) : GSem nD τ sig × ℕ × Fin 15 := match ct.2 with
  | .inl d => (barCell ct.1, 0, d) | .inr (.inl r) => (sdCell ct.1 r, 0, 0) | .inr (.inr r) => (rvCell ct.1 r, 0, 0)
def roleT : TK → Role × Fin 15 | .inl d => (.bar, d) | .inr (.inl r) => (.sd r, 0) | .inr (.inr r) => (.rv r, 0)
theorem roleT_injective : Function.Injective roleT := by
  rintro (d | r | r) (d' | r' | r') h <;> cases h <;> rfl
theorem tok_role (ct : Dev nD × TK) : (role (tokOf ct).1.2, (tokOf ct).2.2) = roleT ct.2 := by
  obtain ⟨c, d | r | r⟩ := ct
  exacts [rfl, congrArg (·, (0 : Fin 15)) (role_sd r), congrArg (·, (0 : Fin 15)) (role_rv r)]
theorem tok_dev (ct : Dev nD × TK) : (tokOf ct).1.1.1 = ct.1 := by obtain ⟨c, d | r | r⟩ := ct <;> rfl
theorem tokOf_injective : Function.Injective tokOf := by
  intro a b h
  exact Prod.ext (by rw [← tok_dev a, ← tok_dev b, h]) (roleT_injective (by rw [← tok_role a, ← tok_role b, h]))

def a2aCells : Finset (GSem nD τ sig) := Finset.univ.map ⟨kcell, kcell_injective⟩
def a2aToks : Finset (GSem nD τ sig × ℕ × Fin 15) := Finset.univ.map ⟨tokOf, tokOf_injective⟩

/-- The ghost state the launch starts from. -/
def u₀ : UU := (initOf (Pipeline.cells cfgs cellOf_inj) (Pipeline.launchToks cfgs cellOf_inj), (initOf a2aCells a2aToks, (1 : Counters)))

/-- The tokens of a device's own duties. -/
def toks (c : Dev nD) : sProp 𝕄 :=
  iprop((bigSep Finset.univ fun d : Fin 15 => dutyTok ER (barCell c) 0 d) ∗ (bigSep Finset.univ fun r : Fin 15 => dutyTok ER (sdCell c r) 0 0)
    ∗ bigSep Finset.univ fun r : Fin 15 => dutyTok ER (rvCell c r) 0 0)
/-- The tokens of the duties it pays. -/
def payToks (c : Dev nD) : sProp 𝕄 :=
  iprop((bigSep Finset.univ fun r : Fin 15 => dutyTok ER (barCell (peer c r)) 0 r.rev) ∗ (bigSep Finset.univ fun r : Fin 15 => dutyTok ER (sdCell c r) 0 0)
    ∗ bigSep Finset.univ fun r : Fin 15 => dutyTok ER (rvCell (peer c r) r) 0 0)

/-- What the launch's ghost state gives device c, and what the global step makes of it. -/
def G (c : Dev nD) : sProp 𝕄 :=
  iprop((bigSep Finset.univ fun k : CK => roundState ER (Rd m) (kcell (c, k)) 0)
    ∗ (bigSep Finset.univ fun k : CK => iprop(atPos ER (kcell (c, k)) 0 ∅ 0 ∗ reached ER (kcell (c, k)) 0)) ∗ toks c)
def G' (c : Dev nD) : sProp 𝕄 := iprop(∃ K, records m K ∗ linear c)

theorem fund_a2a : BI.own (ER (initOf a2aCells a2aToks)) ⊢ (|==> bigSep Finset.univ (G m) : sProp 𝕄) := by
  have hX (Φ : GSem nD τ sig → sProp 𝕄) : bigSep a2aCells Φ = bigSep Finset.univ fun c : Dev nD => bigSep Finset.univ fun k : CK => Φ (kcell (c, k)) := by
    unfold a2aCells; rw [bigSep_map, bigSep_univ_prod]; rfl
  have hT : bigSep a2aToks (fun x => (dutyTok ER x.1 x.2.1 x.2.2 : sProp 𝕄)) = bigSep Finset.univ fun c : Dev nD => toks c := by
    unfold a2aToks; rw [bigSep_map, bigSep_univ_prod]
    exact bigSep_congr fun c _ => by rw [bigSep_univ_sum, bigSep_univ_sum]; rfl
  iintro HX
  imod (Rounds.fund ER (Rd m) a2aCells a2aToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

/-- The kernel's own semaphores: the loads', the sends', the receives'. -/
abbrev osem : Fin 2 ⊕ (Fin 16 ⊕ Fin 16) → SemLoc sig
  | .inl s => .dma (ldSem s) | .inr (.inl r) => .dma (sdSem r) | .inr (.inr r) => .dma (rvSem r)
theorem ownSemFacts : Pipeline.OwnSemFacts cfg0.spec osem := by decide +kernel

theorem ownSems0_eq (c : Dev nD) : (Pipeline.ownSems0 (Ix := Unit) (Name := ℕ) (U := UU) (Lvl := ℕ) (Val := Elt F) (τ := τ) osem c : sProp 𝕄)
    = iprop((semVal (ldCell c 0) 0 ∗ semVal (ldCell c 1) 0)
      ∗ (semVal ((c : Thread nD τ), .dma (sdSem 0)) 0 ∗ bigSep Finset.univ fun r : Fin 15 => semVal (sdCell c r) 0)
      ∗ (semVal ((c : Thread nD τ), .dma (rvSem 0)) 0 ∗ bigSep Finset.univ fun r : Fin 15 => semVal (rvCell c r) 0)) := by
  unfold Pipeline.ownSems0
  rw [bigSep_univ_sum, bigSep_univ_sum, bigSep_univ_eq_bigSepL [(0 : Fin 2), 1] (by decide) (by decide), bigSep_succ, bigSep_succ]
  rfl
/-- The barrier's is the one the launch keeps. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_in (c : Dev nD) :
    iprop(Pipeline.ownSems0 (Ix := Unit) (Name := ℕ) (U := UU) (Lvl := ℕ) (Val := Elt F) (τ := τ) osem c ∗ unscopedSems0 c)
      ⊢ iprop((bigSep Finset.univ fun k : CK => semVal (kcell (c, k)) 0) ∗ idle (F := F) c) := by
  rw [ownSems0_eq, unscopedSems0_eq, bigSep_ck]; unfold idle
  iintro ⟨⟨⟨Hl0, Hl1⟩, ⟨Hs0, Hs⟩, ⟨Hr0, Hr⟩⟩, HB⟩
  isplitl [HB Hs Hr]
  · isplitl [HB]; · iexact HB
    isplitl [Hs] <;> iassumption
  isplitl [Hl0]; · iexact Hl0
  isplitl [Hl1]; · iexact Hl1
  isplitl [Hs0] <;> iassumption

theorem sems0_out (c : Dev nD) : zeros (F := F) c
    ⊢ iprop(unscopedSems0 c ∗ Pipeline.ownSems0 (Ix := Unit) (Name := ℕ) (U := UU) (Lvl := ℕ) (Val := Elt F) (τ := τ) osem c) := by
  rw [ownSems0_eq, unscopedSems0_eq]; unfold zeros idle
  iintro ⟨HB, Hs, Hr, Hl0, Hl1, Hs0, Hr0⟩
  isplitl [HB]; · iexact HB
  isplitl [Hl0 Hl1]; · isplitl [Hl0] <;> iassumption
  isplitl [Hs0 Hs]; · isplitl [Hs0] <;> iassumption
  isplitl [Hr0] <;> iassumption

/-! ## The invariants, and every device's part -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ idle c) := by
  unfold G
  iintro ⟨Hos, Hus, Hst, Hat, Htok⟩
  ihave Hv := (sems0_in (F := F) c) $$ [Hos Hus]
  · isplitl [Hos] <;> iassumption
  icases Hv with ⟨Hv, Hidle⟩
  imod (show iprop((bigSep Finset.univ fun k : CK => semVal (kcell (c, k)) 0) ∗ bigSep Finset.univ fun k : CK => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hidle

/-- A family over devices and steps, read at the step's peer, is the family. -/
theorem bigSep_peer (Φ : Dev nD → Fin 15 → sProp 𝕄) :
    (bigSep Finset.univ fun c : Dev nD => bigSep Finset.univ fun r : Fin 15 => Φ c r)
      = bigSep Finset.univ fun c : Dev nD => bigSep Finset.univ fun r : Fin 15 => Φ (peer c r) r := by
  rw [bigSep_univ_comm, bigSep_univ_comm (fun (c : Dev nD) (r : Fin 15) => Φ (peer c r) r)]
  exact bigSep_congr fun r _ => bigSep_univ_equiv (peerE r) fun c => Φ c r

theorem toks_around : (bigSep Finset.univ fun c : Dev nD => (toks c : sProp 𝕄)) ⊢ bigSep Finset.univ fun c : Dev nD => payToks c := by
  have hb : (bigSep Finset.univ fun c : Dev nD => bigSep Finset.univ fun d : Fin 15 => (dutyTok ER (barCell c) 0 d : sProp 𝕄))
      = bigSep Finset.univ fun c : Dev nD => bigSep Finset.univ fun r : Fin 15 => dutyTok ER (barCell (peer c r)) 0 r.rev := by
    rw [← bigSep_peer (fun (c : Dev nD) (r : Fin 15) => (dutyTok ER (barCell c) 0 r.rev : sProp 𝕄))]
    exact bigSep_congr fun c _ => bigSep_univ_equiv Fin.revPerm fun d : Fin 15 => (dutyTok ER (barCell c) 0 d : sProp 𝕄)
  unfold toks payToks
  rw [bigSep_sep', bigSep_sep', bigSep_sep', bigSep_sep', hb, bigSep_peer (fun (c : Dev nD) (r : Fin 15) => (dutyTok ER (rvCell c r) 0 0 : sProp 𝕄))]

theorem lin_intro (c : Dev nD) : iprop((bigSep Finset.univ fun k : CK => atPos ER (kcell (c, k)) 0 ∅ 0) ∗ payToks c ∗ idle c) ⊢ (linear c : sProp 𝕄) := by
  rw [bigSep_ck]; unfold payToks linear SndT; rw [bigSep_sep', bigSep_sep']
  iintro ⟨⟨HB, HS, HR⟩, ⟨TB, TS, TR⟩, Hi⟩
  isplitl [HB]; · iexact HB
  isplitl [TB]; · iexact TB
  isplitl [TR TS HS]
  · isplitl [TR]; · iexact TR
    isplitl [TS] <;> iassumption
  isplitl [HR] <;> iassumption

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ idle c) : sProp 𝕄)
      ⊢ bigSep Finset.univ (G' m) := by
  rw [bigSep_sep', bigSep_sep', bigSep_sep', ← bigSep_univ_prod (fun ck : Dev nD × CK => iprop(∃ κ : ℕ, cellInv ER (Rd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok, Hidle⟩
  ihave HK := (BI.bigSep_exists_pi Finset.univ (fun (ck : Dev nD × CK) (κ : ℕ) => (cellInv ER (Rd m) κ (kcell ck) : sProp 𝕄))) $$ HI
  icases HK with ⟨%K, #HI⟩
  ihave Htk := (toks_around (F := F)) $$ Htok
  have hG : ∀ c ∈ (Finset.univ : Finset (Dev nD)), iprop(records m K ∗ linear c) ⊢ G' m c := fun c _ => by
    unfold G'; iintro H; iexists K; iexact H
  iapply (bigSep_with (R := records m K) hG)
  isplitr
  · unfold records; isplitl; · iexact HI
    iexact HR
  · have h : iprop((bigSep Finset.univ fun c : Dev nD => bigSep Finset.univ fun k : CK => (atPos ER (kcell (c, k)) 0 ∅ 0 : sProp 𝕄))
        ∗ (bigSep Finset.univ fun c : Dev nD => payToks c) ∗ bigSep Finset.univ fun c : Dev nD => idle c) ⊢ bigSep Finset.univ fun c : Dev nD => (linear c : sProp 𝕄) := by
      rw [← bigSep_sep', ← bigSep_sep']; exact bigSep_mono fun c _ => lin_intro c
    iapply h
    isplitl [Hat]; · iexact Hat
    isplitl [Htk]; · iexact Htk
    iexact Hidle

/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem creds (c : Dev nD) : (Pipeline.launchCred O₀ c : sProp 𝕄) ⊢ credits c := by
  have e : (O₀ : Dev nD → CellTallies nD τ sig Unit)
      = fun d => (∑ r ∈ frm 0, tallyAt (rvCell (peer d r) r) () N) + ∑ r ∈ frm 0, tallyAt (barCell (peer d r)) () 1 := rfl
  have hb : (cred (tallyAt (barCell c) () 15) : sProp 𝕄) = bigSep Finset.univ fun _ : Fin 15 => cred (tallyAt (barCell c) () 1) := by
    rw [← Pipeline.cred_finsetSum Finset.univ fun _ : Fin 15 => (tallyAt (barCell c) () 1 : CellTallies nD τ sig Unit)]
    refine congrArg cred ?_
    funext g; refine Finsupp.ext fun u => ?_
    rw [Finset.sum_apply, Finsupp.finsetSum_apply, Finset.sum_const, Finset.card_univ, Fintype.card_fin, tallyAt_apply, tallyAt_apply]
    split <;> rfl
  unfold credits
  rw [e, Pipeline.launchCred_add (fun d => ∑ r ∈ frm 0, tallyAt (rvCell (peer d r) r) () N) (fun d => ∑ r ∈ frm 0, tallyAt (barCell (peer d r)) () 1),
    Pipeline.launchCred_sum (frm 0) (fun r d => tallyAt (rvCell (peer d r) r) () N), Pipeline.launchCred_sum (frm 0) (fun r d => tallyAt (barCell (peer d r)) () 1),
    frm_zero, hb]
  have h1 : (bigSep Finset.univ fun r : Fin 15 => (Pipeline.launchCred (fun d => tallyAt (rvCell (peer d r) r) () N) c : sProp 𝕄))
      ⊢ bigSep Finset.univ fun r : Fin 15 => cred (tallyAt (rvCell c r) () N) :=
    bigSep_mono fun r _ => Pipeline.launchCred_tallyAt (.dma (rvSem r.succ)) (fun d => peer d r) (fun d => peer d r.rev) (fun d => peer_rev' d r) (fun d => peer_rev d r) () N c
  have h2 : (bigSep Finset.univ fun r : Fin 15 => (Pipeline.launchCred (fun d => tallyAt (barCell (peer d r)) () 1) c : sProp 𝕄))
      ⊢ bigSep Finset.univ fun _ : Fin 15 => cred (tallyAt (barCell c) () 1) :=
    bigSep_mono fun r _ => Pipeline.launchCred_tallyAt (.reg barS) (fun d => peer d r) (fun d => peer d r.rev) (fun d => peer_rev' d r) (fun d => peer_rev d r) () 1 c
  iintro ⟨H1, H2⟩
  isplitl [H2]
  · iapply h2; iexact H2
  · iapply h1; iexact H1

end Cert.KernelIdeal.A2A

end
-- ==== Proof.KernelIdeal.Run.lean ====
/-
The run of the kernel: from any memory with every semaphore at zero, every weakly fair execution of all devices ends, each
device's result holds the stacked blocks, both arguments are as they were and every semaphore is at zero.
-/
module

public import proofs.«01_k».proof.Proof.KernelIdeal.Ghost
public import proofs.«01_k».proof.Proof.Gen.KernelIdeal.Points
public import Idealize.ShloMosaic.Lib.Pipeline.CollectiveSegs

@[expose] public section

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What the region is entered and left with -/

/-- What stays with a device outside the two double buffers before the body; with them. -/
def start (c : Dev nD) : sProp 𝕄 := iprop(G' m c ∗ credits c ∗ levAts L lv ∗ wWhole m c)
def Φ₀ (c : Dev nD) : sProp 𝕄 := iprop(start m c ∗ scratch c)
/-- After the body. -/
def Φ₁ (c : Dev nD) : sProp 𝕄 := iprop(zeros c ∗ scratch c ∗ wWhole m c)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))
def bodyPost (c : Dev nD) : sProp 𝕄 :=
  iprop(Φ₁ m c ∗ (dats m 0 c).owesAt () t0_0.succ ∗ stg c cc0_stg0_0 (xstg m c) ∗ stg c cc0_stg1_0 (outAt m c))

/-- The printed body on device c. -/
theorem sound_body (c : Dev nD) : bodyPre m c ⊢ wpc c (fun _ => bodyPost m c) (body F) := by
  rw [body_eq]
  simp only [wpc, wp_deviceId]
  unfold bodyPre Φ₀ start G'
  iintro ⟨⟨⟨⟨%K, #HR, Hlin⟩, Hcr, #Hlev, Hw⟩, Hscr⟩, Ho, ⟨%d0, %g0, %hg0, Hx⟩, ⟨%d1, %g1, %hg1, Hout⟩⟩
  have hx : g0 = xstg m c := by rw [hg0]; unfold Dat.before; rw [if_pos (fetch0_0 t0_0)]; rfl
  subst hx
  unfold Dat.owesAt Pipeline.owesWithin
  icases Ho with ⟨%W, %hW, HO⟩
  rw [show (dats m 0 c).owed t0_0.castSucc = O₀ c from rfl]
  iapply (sound_prog m K c (Q := fun _ => bodyPost m c) g1)
  isplitr; · iexact HR
  isplitr; · iexact Hlev
  isplitl [Hlin]; · iexact Hlin
  isplitl [Hcr]; · iexact Hcr
  isplitl [Hscr]; · iexact Hscr
  isplitl [Hw]; · iexact Hw
  isplitl [HO]; · iexists W; iexact HO
  isplitl [Hx]; · iexact Hx
  isplitl [Hout]; · iexact Hout
  iintro ⟨Hz, Hscr, Hw, ⟨%W', HO⟩, Hx, Hout⟩
  unfold bodyPost Φ₁ Dat.owesAt Pipeline.owesWithin
  rw [show (dats m 0 c).owed t0_0.succ = 0 from rfl]
  isplitl [Hz Hscr Hw]
  · isplitl [Hz]; · iexact Hz
    isplitl [Hscr] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

theorem bigSep_W (Φ : Fin cfg0.W → sProp 𝕄) : bigSep Finset.univ Φ = iprop(Φ (0 : Fin 2) ∗ Φ (1 : Fin 2)) := bigSep_W0 Φ

set_option maxRecDepth 65536 in
/-- The body as the launch asks it. -/
theorem body_obligation (c : Dev nD) : BodyObligation (dats (F := F) m 0 c) (defs₀ (F := F)) 𝒱₀ () Set.univ := fun t => by
  rw [fin_N0 t]
  rw [bigSep_W, bigSep_W]
  simp only [owns_whole_eq]
  exact sound_body m c

/-! ## The launch's side conditions -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  have hw : (Pipeline.unscopedRestP Pipeline.Prefetch.none cfg0.spec c (fun b => m ((c : Thread nD τ).loc b)) : sProp 𝕄) ⊢ wWhole m c :=
    Entails.of_eq ((Pipeline.unscopedRestP_none cfg0.spec c _).trans (unscopedRest0_eq c _))
  iintro ⟨Hw, Hlev, Hcr, -, HG⟩
  ihave Hc := (creds (F := F) c) $$ Hcr
  ihave Hw' := hw $$ Hw
  imodintro
  unfold start
  isplitl
  · isplitl [HG]; · iexact HG
    isplitl [Hc]; · iexact Hc
    isplitl [Hlev] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs] <;> iassumption

/-- What a device ends with outside the region: its barrier semaphore and its `w`. -/
def left (c : Dev nD) : sProp 𝕄 := iprop(unscopedSems0 c ∗ wWhole m c)

theorem phi1_exit (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = Φ₁ m c from rfl, scopedRest0_eq]
  unfold Φ₁ scratch left
  iintro ⟨Hz, Hr, Hw⟩
  ihave Hs := (sems0_out (F := F) c) $$ Hz
  icases Hs with ⟨HB, Ho⟩
  isplitl [HB Hw]; · isplitl [HB] <;> iassumption
  isplitl [Ho] <;> iassumption

theorem waits (c : Dev nD) : (levAts L lv : sProp 𝕄) ⊢ Pipeline.cellsWaits cfgs (dats m) () 0 c :=
  Pipeline.cellsWaits_intro cfgs (dats m) () 0 c fun w s t =>
    mayWait_stage c _ (by revert w s; decide +kernel) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

/-- What is read of a device's memory at the end beside the windows' arrays. -/
def QY (c : Dev nD) (s : MemSt nD τ sig (Elt F)) : Prop :=
  (∀ sm : SemLoc sig, sm.isScoped .tc = false → s.sem ((c.tc : Thread nD τ), sm) = 0) ∧ s.mem ((c : Thread nD τ).loc main_arg1) = m ((c : Thread nD τ).loc main_arg1)

theorem left_read (c : Dev nD) (s' : Phys nD τ sig (Elt F)) : iprop(left m c ∗ emp ∗ SI s') ⊢ |={Set.univ}=> (iprop(⌜QY m c s'.mem⌝ ∗ SI s') : sProp 𝕄) := by
  have hw : iprop(wWhole m c ∗ SI s') ⊢ (iprop(⌜s'.mem.mem ((c : Thread nD τ).loc main_arg1) = m ((c : Thread nD τ).loc main_arg1)⌝ ∗ SI s') : sProp 𝕄) := by
    unfold wWhole
    iintro ⟨Hi, HSI⟩
    icombine HSI Hi gives %h
    isplitr; · ipureintro; exact Buf.eq_of_forall_mem_univ h
    iexact HSI
  unfold left
  iintro ⟨⟨Hu, Hw⟩, -, HSI⟩
  ihave H := hw $$ [Hw HSI]
  · isplitl [Hw] <;> iassumption
  icases H with ⟨%h1, HSI⟩
  imod (Pipeline.unscopedSems0_read (X := unscopedSems0 c) (c := c) fupd_intro s') $$ [Hu HSI] with ⟨%h2, HSI⟩
  · isplitl [Hu] <;> iassumption
  imodintro
  isplitr; · ipureintro; exact ⟨h2, h1⟩
  iexact HSI

/-- The claim of the run. -/
def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg1) = m ((c : Thread nD τ).loc main_arg1)

set_option maxRecDepth 8000 in
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX' := (own_pair_emb (embR : Emb (UB × Counters) 𝕄) _ _) $$ HX
      icases HX' with ⟨HX, -⟩
      imod (fund_a2a m) $$ HX with HG
      imodintro
      isplitl [HP] <;> iassumption)
    (hglob := glob m)
    (hA := fun _ _ => rfl) (hpf := fun _ k => k.elim0)
    (X := start m) (Y := left m) (Z := fun _ => iprop(emp))
    (hX := start_intro m ρ) (hin := phi0_intro m) (hout := phi1_exit m)
    (QY := QY m) (hY := left_read m)
    (hQ := fun _ h hs => ⟨fun c => ⟨fun w => (h c).1 w, (h c).2.2.2⟩, sem_eq_zero hs fun c => (h c).2.2.1⟩)

/-- `x` holds what it held. -/
theorem finalA_x (c : Dev nD) : finalA m c (0 : Fin 2) = m (win0_0.arr.view.loc (c : Thread nD τ)) :=
  (dats (F := F) m 0 c).arrAt_in (0 : Fin 2) rfl _

end Cert.KernelIdeal.A2A

end
-- ==== Proof.KernelIdeal.Frame.lean ====
/-
The frame: the kernel leaves both arguments as they were and every semaphore counter at zero.
-/
module

public import proofs.«01_k».proof.Proof.KernelIdeal.Run

@[expose] public section

noncomputable section

namespace Cert.KernelIdeal.A2A

open Cert.KernelIdeal Cert.KernelIdeal.Gen
open Idealize.ShloMosaic Idealize.ShloMosaic.TcCoe Idealize.SL.Sem

variable {F : FTy → Type} [FloatOps F]

variable (m : (ℓ : Loc nD τ sig) → Buf (Elt F) ℓ)

/-- Every run from zeroed counters ends with the arguments unchanged on every device and every counter at zero. -/
theorem frame (ρ : Dev nD → PrngReg) : θ_run defs (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨((h.1 c).1 (0 : Fin 2)).trans (finalA_x m c), (h.1 c).2⟩, h.2⟩) (run_main m ρ)

end Cert.KernelIdeal.A2A

end
-- ==== Proof.KernelIdeal.Value.lean ====
/-
The result array after the run: on device c it is `outAt m c`, and what the blocks are computed from: a device's whole share
of `x`, and the 256 columns of `w` that belong to the device the block is for.
-/
module

public import proofs.«01_k».proof.Proof.KernelIdeal.Run
public import Idealize.ShloMosaic.Lib.ValueLayout

@[expose] public section

noncomputable section

namespace Cert.KernelIdeal.A2A

open Cert.KernelIdeal Cert.KernelIdeal.Gen
open Idealize.ShloMosaic Idealize.ShloMosaic.TcCoe Idealize.ShloMosaic.ValueIdx Idealize.SL.Sem

variable {F : FTy → Type} [FloatOps F]

variable (m : (ℓ : Loc nD τ sig) → Buf (Elt F) ℓ)

/-! ## The result array -/

/-- The one block of each window begins at row and column 0, -/
theorem start0 : win0_0.index t0_0 0 * win0_0.size 0 = 0 ∧ win0_0.index t0_0 1 * win0_0.size 1 = 0 := by decide +kernel
theorem start1 : win0_1.index t0_0 0 * win0_1.size 0 = 0 ∧ win0_1.index t0_0 1 * win0_1.size 1 = 0 := by decide +kernel
/-- and the result's is as large as the result. -/
theorem extent1 : win0_1.xsize (grid0.coords t0_0) 0 = 8192 ∧ win0_1.xsize (grid0.coords t0_0) 1 = 256 := by decide +kernel

/-- The pipeline writes back the result's staging buffer once, whole. -/
theorem flushed_out (c : Dev nD) (t : Fin cfg0.N) :
    (dats m 0 c).flushed 1 t = ((cfg0.win 1).blk t).view.read (Elt F) (outAt m c) := by
  obtain rfl := fin_N0 t
  have ha : (dats m 0 c).after 1 t0_0 = outAt m c := by dsimp only [dats]
  unfold Pipeline.Dat.flushed
  rw [ha]
  funext x
  refine congrArg (outAt m c) ?_
  funext a
  match a with
  | ⟨0, _⟩ => apply Fin.ext; show (x (0 : Fin 2)).val = win0_1.index t0_0 0 * win0_1.size 0 + 1 * (x (0 : Fin 2)).val; rw [start1.1]; omega
  | ⟨1, _⟩ => apply Fin.ext; show (x (1 : Fin 2)).val = win0_1.index t0_0 1 * win0_1.size 1 + 1 * (x (1 : Fin 2)).val; rw [start1.2]; omega

/-- Every index of the result lies in that one write. -/
theorem cover_out (i : S8192x256.Idx) : ∃ t : Fin cfg0.N, (cfg0.win 1).flush t = true ∧ i ∈ ((cfg0.win 1).blk t).view.set := by
  refine ⟨t0_0, flush0_1 _, ?_⟩
  show i ∈ ((View.whole main_v1).slice (win0_1.rect t0_0)).set
  rw [View.set_slice_whole, Rect.mem_set_unit]
  intro a
  match a with
  | ⟨0, _⟩ =>
    show win0_1.index t0_0 0 * win0_1.size 0 ≤ (i (0 : Fin 2)).val
      ∧ (i (0 : Fin 2)).val < win0_1.index t0_0 0 * win0_1.size 0 + win0_1.xsize (grid0.coords t0_0) 0
    rw [start1.1, extent1.1]; have := idx2_lt0 i; omega
  | ⟨1, _⟩ =>
    show win0_1.index t0_0 1 * win0_1.size 1 ≤ (i (1 : Fin 2)).val
      ∧ (i (1 : Fin 2)).val < win0_1.index t0_0 1 * win0_1.size 1 + win0_1.xsize (grid0.coords t0_0) 1
    rw [start1.2, extent1.2]; have := idx2_lt1 i; omega

/-- The result on device c after the run. -/
theorem finalA_out (c : Dev nD) : finalA m c (1 : Fin 2) = outAt m c :=
  (dats m 0 c).arrAt_eq_of_cover 1 (outAt m c) (fun t _ => flushed_out m c t) cover_out

/-! ## What the blocks are computed from -/

/-- The block of `x` a device works on is its whole share. -/
theorem xstg_eq (c : Dev nD) : xstg m c = m ((c : Thread nD τ).loc main_arg0) := by
  funext x
  refine congrArg (m ((c : Thread nD τ).loc main_arg0)) ?_
  funext a
  match a with
  | ⟨0, _⟩ => apply Fin.ext; show win0_0.index t0_0 0 * win0_0.size 0 + 1 * (x (0 : Fin 2)).val = (x (0 : Fin 2)).val; rw [start0.1]; omega
  | ⟨1, _⟩ => apply Fin.ext; show win0_0.index t0_0 1 * win0_0.size 1 + 1 * (x (1 : Fin 2)).val = (x (1 : Fin 2)).val; rw [start0.2]; omega

/-- The columns of `w` that device s reads when it computes device d's block begin at column 256 d. -/
theorem off1_stepTo (s d : Dev nD) : k0_off1 s (BitVec.ofNat 32 (stepTo s d).val) = ![0, 256 * d.val] := by
  revert s d; decide +kernel

/-- Their element in row k and column j is `w`'s in row k and column 256 d + j. -/
theorem wv_apply (s d : Dev nD) (k : Fin 8192) (j : Fin 256) :
    shapeCast S8192x256 (wv m s (stepTo s d)) shapeCasts_S1x8192x256_S8192x256 (ix2 k j)
      = m ((s : Thread nD τ).loc main_arg1) (ix2 k ⟨256 * d.val + j.val, by have := d.isLt; have := j.isLt; change d.val < 16 at *; omega⟩) := by
  unfold wv
  rw [shapeCast_1ab_ab_apply, shapeCast_ab_1ab_apply]
  refine congrArg (m ((s : Thread nD τ).loc main_arg1)) ?_
  funext a
  match a with
  | ⟨0, _⟩ =>
    apply Fin.ext
    show k0_off1 s (BitVec.ofNat 32 (stepTo s d).val) 0 + 1 * k.val = k.val
    rw [off1_stepTo]; show 0 + 1 * k.val = k.val; omega
  | ⟨1, _⟩ =>
    apply Fin.ext
    show k0_off1 s (BitVec.ofNat 32 (stepTo s d).val) 1 + 1 * j.val = 256 * d.val + j.val
    rw [off1_stepTo]; show 256 * d.val + 1 * j.val = 256 * d.val + j.val; omega

end Cert.KernelIdeal.A2A

end
-- ==== Proof.Gelu.lean ====
/-
The activation both programs apply to each element of the product, on the extended reals.
-/
module

public import Idealize.ShloMosaic.PureOps.Ideal

@[expose] public section

noncomputable section

namespace Cert.Math

open Idealize.ShloMosaic

/-- `0.5 y (1 + tanh (c (y + b y³)))`, the four constants being the ones both programs spell. -/
def gelu (y : EReal) : EReal :=
  (Ideal.ofBits .f32 0x3F000000#32 * y) * (Ideal.ofBits .f32 0x3F800000#32
    + Ideal.tanh (Ideal.ofBits .f32 0x3F4C422A#32 * (y + Ideal.ofBits .f32 0x3D372713#32 * ((y * y) * y))))

/-- The kernel multiplies `b` into the cube from the left; products may be regrouped. -/
theorem cube_left (b y : EReal) : ((b * y) * y) * y = b * ((y * y) * y) := by
  rw [mul_assoc b y y, mul_assoc b (y * y) y]

end Cert.Math

end
-- ==== Proof.KernelIdeal.Block.lean ====
/-
One block: what device s computes for device d, at an element, on the extended reals.
-/
module

public import proofs.«01_k».proof.Proof.KernelIdeal.Value
public import proofs.«01_k».proof.Proof.Gelu
public import Idealize.ShloMosaic.Lib.Pointwise.Contract
public import Idealize.ShloMosaic.Lib.ValueIdx
public import Idealize.ShloMosaic.PureOps.Ideal.Laws

@[expose] public section

noncomputable section

namespace Cert.KernelIdeal.A2A

open Cert.KernelIdeal Cert.KernelIdeal.Gen Cert.Math
open Idealize.ShloMosaic Idealize.ShloMosaic.TcCoe Idealize.SL.Sem

/-- The block product at an element: the sum over the 8192 columns of `x`. -/
theorem product_apply (x : FVec Ideal S512x8192 .f32) (w : FVec Ideal S8192x256 .f32) (a : Fin 512) (j : Fin 256) :
    matmul dot_S512x8192_S8192x256_S512x256_1_0_0_1_n_n none x w (constant S512x256 .f32 0x00000000#32) (ValueIdx.ix2 a j)
      = ∑ k : Fin 8192, x (ValueIdx.ix2 a k) * w (ValueIdx.ix2 k j) := by
  refine (Ideal.matmul_apply₁_of dot_S512x8192_S8192x256_S512x256_1_0_0_1_n_n (a := (1 : Fin 2)) rfl (K := 8192) rfl x w _ (ValueIdx.ix2 a j)
    (fun k => ValueIdx.ix2 a k) (fun k => ValueIdx.ix2 k j) (fun k => ?_) (fun k => ?_)).trans ?_
  · exact funext fun b => match b with | ⟨0, _⟩ => rfl | ⟨1, _⟩ => rfl
  · exact funext fun b => match b with | ⟨0, _⟩ => rfl | ⟨1, _⟩ => rfl
  · rw [ValueIdx.constant_apply, Ideal.ofBits_zero_f32, zero_add]

/-- The arithmetic after a product y, as the kernel spells it. -/
def act (y : FVec Ideal S512x256 .f32) : FVec Ideal S512x256 .f32 :=
  mulf (mulf (broadcast S512x256 (Scalar.ofBits .f32 0x3F000000#32)) y) (addf (broadcast S512x256 (Scalar.ofBits .f32 0x3F800000#32))
    (tanh (mulf (broadcast S512x256 (Scalar.ofBits .f32 0x3F4C422A#32))
      (addf y (mulf (mulf (mulf (broadcast S512x256 (Scalar.ofBits .f32 0x3D372713#32)) y) y) y)))))

theorem act_apply (y : FVec Ideal S512x256 .f32) (i : S512x256.Idx) : act y i = gelu (y i) := by
  unfold gelu
  rw [← cube_left]
  rfl

/-- A block is that of its product. -/
theorem blkO_eq (x : Vec Ideal S512x8192 .f32) (w : Vec Ideal S1x8192x256 .f32) :
    blkO x w = act (matmul (F := Ideal) (φ₁ := .f32) (φ₂ := .f32) dot_S512x8192_S8192x256_S512x256_1_0_0_1_n_n none x
      (shapeCast S8192x256 (α := Elt Ideal .f32) w shapeCasts_S1x8192x256_S8192x256) (constant S512x256 .f32 0x00000000#32)) := by
  have e : k0_pay1 x = x := by unfold k0_pay1; exact shapeCast_self _ _
  unfold blkO
  rw [e]
  rfl

variable (m : (ℓ : Loc nD τ sig) → Buf (Elt Ideal) ℓ)

/-- What device s computes for device d: the activation of its rows of `x` times columns 256 d … 256 d + 255 of `w`. -/
theorem blk_apply (s d : Dev nD) (a : Fin 512) (j : Fin 256) :
    blk m s d (ValueIdx.ix2 a j) = gelu (∑ k : Fin 8192, (show EReal from m ((s : Thread nD τ).loc main_arg0) (ValueIdx.ix2 a k))
      * (show EReal from m ((s : Thread nD τ).loc main_arg1) (ValueIdx.ix2 k ⟨256 * d.val + j.val, by have := d.isLt; have := j.isLt; change d.val < 16 at *; omega⟩))) := by
  unfold blk
  rw [blkO_eq, act_apply, product_apply]
  refine congrArg gelu (Finset.sum_congr rfl fun k _ => ?_)
  rw [wv_apply, xstg_eq]

end Cert.KernelIdeal.A2A

end
-- ==== Proof.Reference.lean ====
/-
The reference's result at an element, on the extended reals.
-/
module

public import proofs.«01_k».proof.Proof.Gen.ReferenceIdeal.Run
public import proofs.«01_k».proof.Proof.Gelu
public import Idealize.ShloMosaic.Lib.Pointwise.Contract
public import Idealize.ShloMosaic.Lib.ValueIdx
public import Idealize.ShloMosaic.Lib.IdealHost
public import Idealize.ShloMosaic.Lib.Quiescent

@[expose] public section

noncomputable section

namespace Cert.ReferenceIdeal.Value

open Cert.ReferenceIdeal Cert.ReferenceIdeal.Gen Cert.Math
open Idealize.ShloMosaic Idealize.ShloMosaic.TcCoe Idealize.SL.Sem

/-- The whole product. -/
abbrev prod {F : FTy → Type} [FloatOps F] (x : FVec F S8192x8192 .f32) (w : FVec F S8192x4096 .f32) : FVec F S8192x4096 .f32 :=
  Host.dotGeneral dot_S8192x8192_S8192x4096_S8192x4096_1_0_0_1_n_n none x w

/-- A scalar constant at every element. -/
abbrev splat {F : FTy → Type} [FloatOps F] (b : BitVec 32) : FVec F S8192x4096 .f32 :=
  broadcastInDim S8192x4096 ![] bcast_S_S8192x4096 (constant S_ .f32 b)

/-- The product at an element: the sum over the 8192 columns of `x`. -/
theorem prod_apply (x : FVec Ideal S8192x8192 .f32) (w : FVec Ideal S8192x4096 .f32) (a : Fin 8192) (j : Fin 4096) :
    prod x w (ValueIdx.ix2 a j) = ∑ k : Fin 8192, x (ValueIdx.ix2 a k) * w (ValueIdx.ix2 k j) := by
  unfold prod
  refine (Ideal.matmul_apply₁_of dot_S8192x8192_S8192x4096_S8192x4096_1_0_0_1_n_n (a := (1 : Fin 2)) rfl (K := 8192) rfl x w (fun _ => 0)
    (ValueIdx.ix2 a j) (fun k => ValueIdx.ix2 a k) (fun k => ValueIdx.ix2 k j) (fun k => ?_) (fun k => ?_)).trans (zero_add _)
  · exact funext fun b => match b with | ⟨0, _⟩ => rfl | ⟨1, _⟩ => rfl
  · exact funext fun b => match b with | ⟨0, _⟩ => rfl | ⟨1, _⟩ => rfl

theorem splat_apply (b : BitVec 32) (i : S8192x4096.Idx) : (splat b : FVec Ideal S8192x4096 .f32) i = Ideal.ofBits .f32 b :=
  (ValueIdx.broadcastInDim_scalar_apply ..).trans (ValueIdx.constant_apply ..)

/-- The arithmetic after a product y, as the reference spells it. -/
def act {F : FTy → Type} [FloatOps F] (y : FVec F S8192x4096 .f32) : FVec F S8192x4096 .f32 :=
  mulf (mulf (splat 0x3F000000#32) y) (addf (splat 0x3F800000#32) (Host.tanh (mulf (splat 0x3F4C422A#32)
    (addf y (mulf (splat 0x3D372713#32) (mulf (mulf y y) y))))))

theorem act_apply (y : FVec Ideal S8192x4096 .f32) (i : S8192x4096.Idx) : act y i = gelu (y i) := by
  unfold act
  simp only [ValueIdx.mulf_apply, ValueIdx.addf_apply, splat_apply]
  unfold gelu
  rw [← splat_apply 0x3F4C422A#32 i, ← splat_apply 0x3D372713#32 i]
  rfl

/-- The reference's result of its arguments. -/
def out {F : FTy → Type} [FloatOps F] (x : FVec F S8192x8192 .f32) (w : FVec F S8192x4096 .f32) : FVec F S8192x4096 .f32 :=
  act (prod x w)

/-- The result at an element is the activation of the product's. -/
theorem out_apply (x : FVec Ideal S8192x8192 .f32) (w : FVec Ideal S8192x4096 .f32) (a : Fin 8192) (j : Fin 4096) :
    out x w (ValueIdx.ix2 a j) = gelu (∑ k : Fin 8192, x (ValueIdx.ix2 a k) * w (ValueIdx.ix2 k j)) := by
  unfold out
  rw [act_apply, prod_apply]

/-- Every run of the reference leaves `out` of the arguments, the arguments, and every counter at zero (it declares none). -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems rfl r.2⟩) (run m ρ)

end Cert.ReferenceIdeal.Value

end
-- ==== Proof.Equation.lean ====
/-
The equation: on device c the kernel's result is columns 256 c … 256 c + 255 of the reference's, when each device holds its
512 rows of `x` and all of `w`.
-/
module

public import proofs.«01_k».proof.Proof.KernelIdeal.Block
public import proofs.«01_k».proof.Proof.Reference
public import Idealize.ShloMosaic.Lib.Layout

@[expose] public section

noncomputable section

namespace Cert.Math

open Idealize.ShloMosaic Idealize.ShloMosaic.TcCoe

open Cert.KernelIdeal in
/-- The result on device c, from the whole arguments X and W that the devices' arguments are parts of. -/
theorem outAt_eq (m : (ℓ : Loc nD τ sig) → Buf (Elt Ideal) ℓ) (X : FVec Ideal ⟨2, ![8192, 8192]⟩ .f32) (W : FVec Ideal ⟨2, ![8192, 4096]⟩ .f32)
    (hX : ∀ s : Dev nD, m ((s.tc : Thread nD τ).loc main_arg0) = Layout.block ⟨2, ![512, 8192]⟩ ⟨2, ![8192, 8192]⟩ 0 16 s X)
    (hW : ∀ s : Dev nD, m ((s.tc : Thread nD τ).loc main_arg1) = W) (c : Dev nD) :
    A2A.outAt m c = Layout.block ⟨2, ![8192, 256]⟩ ⟨2, ![8192, 4096]⟩ 1 16 c (Cert.ReferenceIdeal.Value.out X W) := by
  funext i
  have h0 := ValueIdx.idx2_lt0 i
  have h1 := ValueIdx.idx2_lt1 i
  have hc : c.val < 16 := c.isLt
  have ht : Layout.Tiles ⟨2, ![8192, 256]⟩ ⟨2, ![8192, 4096]⟩ 1 16 := by decide
  have hr : Layout.Tiles ⟨2, ![512, 8192]⟩ ⟨2, ![8192, 8192]⟩ 0 16 := by decide
  have e : ht.idx c i = ValueIdx.ix2 ⟨(i 0).val, h0⟩ ⟨256 * c.val + (i 1).val, by omega⟩ := by
    funext b
    match b with
    | ⟨0, _⟩ => exact Fin.ext (Layout.idx_cols_val ht c i).1
    | ⟨1, _⟩ => exact Fin.ext ((Layout.idx_cols_val ht c i).2.trans (by show c.val * 256 + (i 1).val = 256 * c.val + (i 1).val; omega))
  rw [Layout.block_apply _ _ ht, e, Cert.ReferenceIdeal.Value.out_apply]
  unfold A2A.outAt
  rw [A2A.blk_apply]
  refine congrArg gelu (Finset.sum_congr rfl fun k _ => ?_)
  rw [hX, hW, Layout.block_apply _ _ hr]
  refine congrArg (fun z => X z * _) ?_
  funext b
  match b with
  | ⟨0, _⟩ =>
    refine Fin.ext ((Layout.idx_rows_val hr _ _).1.trans ?_)
    show (i 0).val / 512 * 512 + (i 0).val % 512 = (i 0).val
    omega
  | ⟨1, _⟩ => exact Fin.ext (Layout.idx_rows_val hr _ _).2

end Cert.Math

end
-- ==== Proof.lean ====
/-
The certificate's claims assembled: the frames of the kernel as it runs, of its ideal reading and of the reference, and the
kernel's result on every device as that device's 256 columns of the reference's result.
-/
module

public import proofs.«01_k».proof.Defs
public import proofs.«01_k».proof.Proof.Kernel.Frame
public import proofs.«01_k».proof.Proof.KernelIdeal.Frame
public import proofs.«01_k».proof.Proof.Equation

@[expose] public section

noncomputable section

namespace Cert.Proof

open Idealize.ShloMosaic Idealize.SL.Sem Cert.Kernel

/-- The kernel ends on every device with its arguments unchanged and every counter at zero. -/
theorem kernel_frame : Cert.quiescent_Kernel (hKernel := Cert.Kernel.Gen.facts) :=
  fun m g _ => Cert.Kernel.A2A.frame m g

/-- So does its ideal reading, -/
theorem kernelIdeal_frame : Cert.quiescent_KernelIdeal (hKernelIdeal := Cert.KernelIdeal.Gen.facts) :=
  fun m g _ => Cert.KernelIdeal.A2A.frame m g

/-- and the reference. -/
theorem reference_frame : Cert.quiescent_ReferenceIdeal (hReferenceIdeal := Cert.ReferenceIdeal.Gen.facts) :=
  fun m g _ => Cert.ReferenceIdeal.Value.frame m g

/-- On the extended reals, every device ends with its 256 columns of the reference's result. -/
theorem value : Cert.algebraic_KernelIdeal_ReferenceIdeal (hKernelIdeal := Cert.KernelIdeal.Gen.facts)
    (hReferenceIdeal := Cert.ReferenceIdeal.Gen.facts) := by
  intro m g m' g' _ hm
  refine ⟨Cert.ReferenceIdeal.Value.out (F := Ideal) (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · refine (θ_run _ _ _).mono (fun r h c => ⟨?_, ((h.1 c).1 (0 : Fin 2)).trans (Cert.KernelIdeal.A2A.finalA_x m c), (h.1 c).2⟩)
      (Cert.KernelIdeal.A2A.run_main m g)
    exact (((h.1 c).1 (1 : Fin 2)).trans (Cert.KernelIdeal.A2A.finalA_out m c)).trans
      (Cert.Math.outAt_eq m _ _ (fun s => (hm s).1) (fun s => (hm s).2) c)
  · exact (θ_run _ _ _).mono (fun r h => h 0) (Cert.ReferenceIdeal.Value.run m' g')

/-- All of it. -/
theorem claim : Cert.Claim := ⟨Cert.Kernel.Gen.facts, Cert.KernelIdeal.Gen.facts, Cert.ReferenceIdeal.Gen.facts,
  kernel_frame, kernelIdeal_frame, reference_frame, trivial, value⟩

end Cert.Proof

end
